-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_absmax [hPre_finite_absmax : Cert.Pre_finite_absmax.Facts] (m : (ℓ : Loc Cert.KernelIdeal.nD Cert.KernelIdeal.τ Cert.KernelIdeal.sig) → Buf (Elt Ideal) ℓ) : Prop :=
  ∀ c : Dev Cert.KernelIdeal.nD,
    (Cert.Pre_finite_absmax.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_absmax [hPre_finite_absmax : Cert.Pre_finite_absmax.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_absmax.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_absmax [hKernelIdeal : Cert.KernelIdeal.Facts] [hPre_finite_absmax : Cert.Pre_finite_absmax.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_absmax m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_absmax [hReferenceIdeal : Cert.ReferenceIdeal.Facts] [hPre_finite_absmax : Cert.Pre_finite_absmax.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_absmax m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_127" .f32 0x3C010204#32 ((1 / 127 : ℝ) : EReal)

def algebraic_KernelIdeal_ReferenceIdeal_pre_finite_absmax [hKernelIdeal : Cert.KernelIdeal.Facts] [hReferenceIdeal : Cert.ReferenceIdeal.Facts] [hPre_finite_absmax : Cert.Pre_finite_absmax.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_absmax m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_absmax : Cert.Pre_finite_absmax.Facts),
    quiescent_Kernel (hKernel := hKernel)
    ∧ quiescent_KernelIdeal (hKernelIdeal := hKernelIdeal)
    ∧ quiescent_KernelIdeal_pre_finite_absmax (hKernelIdeal := hKernelIdeal) (hPre_finite_absmax := hPre_finite_absmax)
    ∧ quiescent_ReferenceIdeal (hReferenceIdeal := hReferenceIdeal)
    ∧ quiescent_ReferenceIdeal_pre_finite_absmax (hReferenceIdeal := hReferenceIdeal) (hPre_finite_absmax := hPre_finite_absmax)
    ∧ preserves_Kernel_KernelIdeal
    ∧ algebraic_KernelIdeal_ReferenceIdeal_pre_finite_absmax (hKernelIdeal := hKernelIdeal) (hReferenceIdeal := hReferenceIdeal) (hPre_finite_absmax := hPre_finite_absmax)
-- ==== Pre_finite_absmax.lean ====
abbrev S2x128x7168 : Shape := ⟨3, ![2, 128, 7168]⟩
abbrev S7168x18432 : Shape := ⟨2, ![7168, 18432]⟩
abbrev S7168 : Shape := ⟨1, ![7168]⟩
abbrev S18432 : Shape := ⟨1, ![18432]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S2x128x7168 .bf16) (main_arg1 : FVec F S7168x18432 .bf16) (main_arg2 : FVec F S7168 .f32) (main_arg3 : FVec F S18432 .f32) : IVec S7168 1 :=
  let main_cst : FVec F S_ .f32 := constant S_ .f32 0x7F800000#32
  let main_v0 : FVec F S7168 .f32 := broadcastInDim S7168 ![] bcast_S_S7168 main_cst
  let main_v1 : IVec S7168 1 := cmpf .olt main_arg2 main_v0
  main_v1
-- ==== Kernel.lean ====
abbrev S2x128x7168 : Shape := ⟨3, ![2, 128, 7168]⟩
abbrev S7168x18432 : Shape := ⟨2, ![7168, 18432]⟩
abbrev S7168 : Shape := ⟨1, ![7168]⟩
abbrev S18432 : Shape := ⟨1, ![18432]⟩
abbrev S256x7168 : Shape := ⟨2, ![256, 7168]⟩
abbrev S1x7168 : Shape := ⟨2, ![1, 7168]⟩
abbrev S1x18432 : Shape := ⟨2, ![1, 18432]⟩
abbrev S256x18432 : Shape := ⟨2, ![256, 18432]⟩
abbrev S2x128 : Shape := ⟨2, ![2, 128]⟩
abbrev S7168x256 : Shape := ⟨2, ![7168, 256]⟩
abbrev S1x256 : Shape := ⟨2, ![1, 256]⟩
abbrev S256x128 : Shape := ⟨2, ![256, 128]⟩
abbrev S7168x128 : Shape := ⟨2, ![7168, 128]⟩
abbrev S72x256x256 : Shape := ⟨3, ![72, 256, 256]⟩
abbrev S128 : Shape := ⟨1, ![128]⟩
abbrev S1x128 : Shape := ⟨2, ![1, 128]⟩
abbrev S128x128 : Shape := ⟨2, ![128, 128]⟩
abbrev S256 : Shape := ⟨1, ![256]⟩
abbrev S256x1 : Shape := ⟨2, ![256, 1]⟩
abbrev S128x1 : Shape := ⟨2, ![128, 1]⟩
abbrev S8x256 : Shape := ⟨2, ![8, 256]⟩
abbrev S256x256 : Shape := ⟨2, ![256, 256]⟩
abbrev S1x256x128 : Shape := ⟨3, ![1, 256, 128]⟩
abbrev S1x256x256 : Shape := ⟨3, ![1, 256, 256]⟩

abbrev nBuf : Space → Nat
  | .hbm => 14
  | .vmem => 22
  | .smem => 0
  | _ => 0

abbrev bufTy : (tb : Table) → Fin (tcTables nBuf tb) → BufTy
  | .hbm, ⟨0, _⟩ => ⟨S2x128x7168, .bf16⟩
  | .hbm, ⟨1, _⟩ => ⟨S7168x18432, .bf16⟩
  | .hbm, ⟨2, _⟩ => ⟨S7168, .f32⟩
  | .hbm, ⟨3, _⟩ => ⟨S18432, .f32⟩
  | .hbm, ⟨4, _⟩ => ⟨S256x7168, .bf16⟩
  | .hbm, ⟨5, _⟩ => ⟨S1x7168, .f32⟩
  | .hbm, ⟨6, _⟩ => ⟨S1x18432, .f32⟩
  | .hbm, ⟨7, _⟩ => ⟨S256x18432, .i8⟩
  | .hbm, ⟨8, _⟩ => ⟨S2x128, .f32⟩
  | .hbm, ⟨9, _⟩ => ⟨S1x7168, .f32⟩
  | .hbm, ⟨10, _⟩ => ⟨S7168x18432, .i8⟩
  | .hbm, ⟨11, _⟩ => ⟨S1x18432, .f32⟩
  | .hbm, ⟨12, _⟩ => ⟨S256x7168, .i8⟩
  | .hbm, ⟨13, _⟩ => ⟨S2x128, .f32⟩
  | .local _ .vmem, ⟨0, _⟩ => ⟨S256x7168, .bf16⟩
  | .local _ .vmem, ⟨1, _⟩ => ⟨S1x7168, .f32⟩
  | .local _ .vmem, ⟨2, _⟩ => ⟨S7168x256, .bf16⟩
  | .local _ .vmem, ⟨3, _⟩ => ⟨S7168x256, .bf16⟩
  | .local _ .vmem, ⟨4, _⟩ => ⟨S1x256, .f32⟩
  | .local _ .vmem, ⟨5, _⟩ => ⟨S1x256, .f32⟩
  | .local _ .vmem, ⟨6, _⟩ => ⟨S256x18432, .i8⟩
  | .local _ .vmem, ⟨7, _⟩ => ⟨S2x128, .f32⟩
  | .local _ .vmem, ⟨8, _⟩ => ⟨S1x7168, .f32⟩
  | .local _ .vmem, ⟨9, _⟩ => ⟨S7168x256, .i8⟩
  | .local _ .vmem, ⟨10, _⟩ => ⟨S7168x256, .i8⟩
  | .local _ .vmem, ⟨11, _⟩ => ⟨S1x256, .f32⟩
  | .local _ .vmem, ⟨12, _⟩ => ⟨S1x256, .f32⟩
  | .local _ .vmem, ⟨13, _⟩ => ⟨S256x7168, .i8⟩
  | .local _ .vmem, ⟨14, _⟩ => ⟨S2x128, .f32⟩
  | .local _ .vmem, ⟨15, _⟩ => ⟨S256x7168, .bf16⟩
  | .local _ .vmem, ⟨16, _⟩ => ⟨S256x128, .f32⟩
  | .local _ .vmem, ⟨17, _⟩ => ⟨S7168x128, .f32⟩
  | .local _ .vmem, ⟨18, _⟩ => ⟨S7168x256, .f32⟩
  | .local _ .vmem, ⟨19, _⟩ => ⟨S7168x256, .bf16⟩
  | .local _ .vmem, ⟨20, _⟩ => ⟨S72x256x256, .f32⟩
  | .local _ .vmem, ⟨21, _⟩ => ⟨S256x128, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![72], ![false]⟩

def k0_off1 (i : grid0.Coords) : Fin 3 → Nat :=
  let arg0 : BitVec 32 := BitVec.ofNat 32 (i 0).val
  let v3333 : Index := Scalar.indexCast arg0
  let c0_383 : Index := 0#32
  let c0_384 : Index := 0#32
  ![v3333.toNat, 0, 0]
def k0_off2 (i : grid0.Coords) : Fin 3 → Nat :=
  let arg0 : BitVec 32 := BitVec.ofNat 32 (i 0).val
  let v3348 : Index := Scalar.indexCast arg0
  let c0_386 : Index := 0#32
  let c128_387 : Index := 128#32
  ![v3348.toNat, 0, 128]
def k0_cond2 (i : grid0.Coords) : BitVec 1 :=
  let arg0 : BitVec 32 := BitVec.ofNat 32 (i 0).val
  let c71_i32 : BitVec 32 := 71#32
  let v3357 : BitVec 1 := Scalar.cmpi .eq arg0 c71_i32
  let v3358 : BitVec 32 := Scalar.extui v3357
  let c0_i32_390 : BitVec 32 := 0#32
  let v3359 : BitVec 1 := Scalar.cmpi .ne v3358 c0_i32_390
  v3359

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x18432 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S7168x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x7168 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_127" => some ((1 / 127 : ℝ) : EReal)
  | _ => none
-- ==== ReferenceIdeal.lean ====
abbrev S2x128x7168 : Shape := ⟨3, ![2, 128, 7168]⟩
abbrev S7168x18432 : Shape := ⟨2, ![7168, 18432]⟩
abbrev S7168 : Shape := ⟨1, ![7168]⟩
abbrev S18432 : Shape := ⟨1, ![18432]⟩
abbrev S256x18432 : Shape := ⟨2, ![256, 18432]⟩
abbrev S2x128 : Shape := ⟨2, ![2, 128]⟩
abbrev S1x7168 : Shape := ⟨2, ![1, 7168]⟩
abbrev S1x18432 : Shape := ⟨2, ![1, 18432]⟩
abbrev S256x7168 : Shape := ⟨2, ![256, 7168]⟩
abbrev S7168x1 : Shape := ⟨2, ![7168, 1]⟩
abbrev S1x1x7168 : Shape := ⟨3, ![1, 1, 7168]⟩
abbrev S2x128x1 : Shape := ⟨3, ![2, 128, 1]⟩
abbrev S2x128x18432 : Shape := ⟨3, ![2, 128, 18432]⟩
abbrev S1x1x18432 : Shape := ⟨3, ![1, 1, 18432]⟩

abbrev nBuf : Space → Nat
  | .hbm => 11
  | .vmem => 11
  | .smem => 0
  | _ => 0

abbrev bufTy : (tb : Table) → Fin (tcTables nBuf tb) → BufTy
  | .hbm, ⟨0, _⟩ => ⟨S2x128x7168, .bf16⟩
  | .hbm, ⟨1, _⟩ => ⟨S7168x18432, .bf16⟩
  | .hbm, ⟨2, _⟩ => ⟨S7168, .f32⟩
  | .hbm, ⟨3, _⟩ => ⟨S18432, .f32⟩
  | .hbm, ⟨4, _⟩ => ⟨S256x18432, .i8⟩
  | .hbm, ⟨5, _⟩ => ⟨S2x128, .f32⟩
  | .hbm, ⟨6, _⟩ => ⟨S1x7168, .f32⟩
  | .hbm, ⟨7, _⟩ => ⟨S7168x18432, .i8⟩
  | .hbm, ⟨8, _⟩ => ⟨S1x18432, .f32⟩
  | .hbm, ⟨9, _⟩ => ⟨S256x7168, .i8⟩
  | .hbm, ⟨10, _⟩ => ⟨S2x128, .f32⟩
  | .local _ .vmem, ⟨0, _⟩ => ⟨S2x128x7168, .bf16⟩
  | .local _ .vmem, ⟨1, _⟩ => ⟨S7168x18432, .bf16⟩
  | .local _ .vmem, ⟨2, _⟩ => ⟨S7168, .f32⟩
  | .local _ .vmem, ⟨3, _⟩ => ⟨S18432, .f32⟩
  | .local _ .vmem, ⟨4, _⟩ => ⟨S256x18432, .i8⟩
  | .local _ .vmem, ⟨5, _⟩ => ⟨S2x128, .f32⟩
  | .local _ .vmem, ⟨6, _⟩ => ⟨S1x7168, .f32⟩
  | .local _ .vmem, ⟨7, _⟩ => ⟨S7168x18432, .i8⟩
  | .local _ .vmem, ⟨8, _⟩ => ⟨S1x18432, .f32⟩
  | .local _ .vmem, ⟨9, _⟩ => ⟨S256x7168, .i8⟩
  | .local _ .vmem, ⟨10, _⟩ => ⟨S2x128, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x18432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x18432 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x18432 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x18432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x7168 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KRuns.lean ====
/- The kernel over the device words, first part of its frame: the run of @main up to the grid region, the
   blocks its windows read, the body's branch conditions in closed form over the grid points, the idle windows and the
   staging memrefs.  Stated at any float type `F`.  The text follows the generated frame certificate. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- No host operation before the region needs a fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 1 % 72 := Pipeline.Grid.coords_val t 0 (by decide) rfl
    simp only [cond0_0, k0_cond1, e0]
    word_cmp
   : ∀ t : Fin grid0.N, cond0_0 (grid0.coords t) ↔ t.val % 72 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 72 = 71 :=
  (fun t => by
    have ht : t.val < 72 := Nat.lt_of_lt_of_eq t.isLt N_0
    have e0 : (grid0.coords t 0).val = t.val / 1 % 72 := Pipeline.Grid.coords_val t 0 (by decide) rfl
    simp only [cond0_1, k0_cond2, e0]
    word_cmp
   : ∀ t : Fin grid0.N, cond0_1 (grid0.coords t) ↔ t.val % 72 = 71)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x18432 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x7168 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S7168x256 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x7168 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x7168 .bf16 := Memref.whole cc0_scratch0
abbrev scM0_1 : Memref sig .tc .vmem S256x128 .f32 := Memref.whole cc0_scratch1
abbrev scM0_2 : Memref sig .tc .vmem S7168x128 .f32 := Memref.whole cc0_scratch2
abbrev scM0_3 : Memref sig .tc .vmem S7168x256 .f32 := Memref.whole cc0_scratch3
abbrev scM0_4 : Memref sig .tc .vmem S7168x256 .bf16 := Memref.whole cc0_scratch4
abbrev scM0_5 : Memref sig .tc .vmem S72x256x256 .f32 := Memref.whole cc0_scratch5
abbrev scM0_6 : Memref sig .tc .vmem S256x128 .f32 := Memref.whole cc0_scratch6
/-- The scratch `arg12` the kernel carries between points, as a view: what it holds is stated through it. -/
abbrev VS0_0 : View sig .tc .vmem S256x7168 .bf16 := scM0_0.view
/-- The scratch `arg13` the kernel carries between points, as a view: what it holds is stated through it. -/
abbrev VS0_1 : View sig .tc .vmem S256x128 .f32 := scM0_1.view
/-- The scratch `arg14` the kernel carries between points, as a view: what it holds is stated through it. -/
abbrev VS0_2 : View sig .tc .vmem S7168x128 .f32 := scM0_2.view
/-- The scratch `arg18` the kernel carries between points, as a view: what it holds is stated through it. -/
abbrev VS0_6 : View sig .tc .vmem S256x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Hand

end
-- ==== Proof.KRunA.lean ====
/- The whole-body run of the kernel at the first grid point (first conditional taken, last one not). -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5932000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8, 9, 10) at anything, handed back at some contents nothing names. -/
noncomputable def kernelRun0_A (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) :
    Σ' (LS0 : List (View.Piece (Elt F) S256x7168 .bf16)), Σ' (LS1 : List (View.Piece (Elt F) S256x128 .f32)), Σ' (LS2 : List (View.Piece (Elt F) S7168x128 .f32)), Σ' (LS6 : List (View.Piece (Elt F) S256x128 .f32)), Σ' (LT3 : List (View.Piece (Elt F) S7168x256 .f32)), { LT4 : List (View.Piece (Elt F) S7168x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_smoothquant_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_smoothquant_linear_eq_skeleton]; unfold cc0_smoothquant_linear_skel
    simp only [k0_part160_eq_skeleton, k0_part96_eq_skeleton, k0_part72_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part73_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]
    · iexists _, _; isplitr; swap; · iexact HS5
      ipureintro; rfl
    iexists _; iexact HS6

end Cert.Kernel.Hand

end
-- ==== Proof.KRunB.lean ====
/- The whole-body run of the kernel at the middle grid points (neither conditional taken). -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1900000 in
/-- What the body's stores leave in each output's staging memref, as pieces (last first) IN CASE B (`scf.if` 0 not taken, `scf.if` 1 not taken: points 1, 2, … 70: 70 of 72), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8, 9, 10) at anything, handed back at some contents nothing names. -/
noncomputable def kernelRun0_B (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : ¬cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) :
    Σ' (LS0 : List (View.Piece (Elt F) S256x7168 .bf16)), Σ' (LS1 : List (View.Piece (Elt F) S256x128 .f32)), Σ' (LS2 : List (View.Piece (Elt F) S7168x128 .f32)), Σ' (LS6 : List (View.Piece (Elt F) S256x128 .f32)), Σ' (LT3 : List (View.Piece (Elt F) S7168x256 .f32)), { LT4 : List (View.Piece (Elt F) S7168x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_smoothquant_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, ?_, fun E K => ?run⟩
  case run =>
    simp only [cc0_smoothquant_linear_eq_skeleton]; unfold cc0_smoothquant_linear_skel
    simp only [k0_part160_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg12.eq_unread hfs0; obtain rfl := harg13.eq_unread hfs1; obtain rfl := harg14.eq_unread hfs2; obtain rfl := harg18.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    isplitl [HS4]; · iexists _; iexact HS4
    isplitl [HS5]
    · iexists _, _; isplitr; swap; · iexact HS5
      ipureintro; rfl
    iexists _; iexact HS6

end Cert.Kernel.Hand

end
-- ==== Proof.KRunC.lean ====
/- The whole-body run of the kernel at the last grid point (last conditional taken). -/
module

public import proofs.«01_k».proof.Proof.KRunB

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2992000 in
/-- What the body's stores leave in each output's staging memref, as pieces (last first) IN CASE C (`scf.if` 0 not taken, `scf.if` 1 taken: points 71), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8, 9, 10) at anything, handed back at some contents nothing names. -/
noncomputable def kernelRun0_C (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) :
    Σ' (LS0 : List (View.Piece (Elt F) S256x7168 .bf16)), Σ' (LS1 : List (View.Piece (Elt F) S256x128 .f32)), Σ' (LS2 : List (View.Piece (Elt F) S7168x128 .f32)), Σ' (LS6 : List (View.Piece (Elt F) S256x128 .f32)), Σ' (LT3 : List (View.Piece (Elt F) S7168x256 .f32)), { LT4 : List (View.Piece (Elt F) S7168x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_smoothquant_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, ?_, fun E K => ?run⟩
  case run =>
    simp only [cc0_smoothquant_linear_eq_skeleton]; unfold cc0_smoothquant_linear_skel
    simp only [k0_part160_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg12.eq_unread hfs0; obtain rfl := harg13.eq_unread hfs1; obtain rfl := harg14.eq_unread hfs2; obtain rfl := harg18.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    isplitl [HS4]; · iexists _; iexact HS4
    isplitl [HS5]
    · iexists _, _; isplitr; swap; · iexact HS5
      ipureintro; rfl
    iexists _; iexact HS6

end Cert.Kernel.Hand

end
-- ==== Proof.KFrame.lean ====
/- The frame of the kernel at any float type `F`: what the carried scratch holds point by point, the proof data (the
   contents of the outputs are left unnamed), the body obligation, the run of @main, and `frame`: the kernel runs to the
   end and leaves its arguments unchanged. -/
module

public import proofs.«01_k».proof.Proof.KRunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 56 pieces of `S256x128` tiling it (Lib/Ring.lean `Piece.tiledL`). -/
theorem scover0_A_0 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) (y : S256x7168.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).1 S256x128.size (by sl_kernel_rfl) y

/-- What case A leaves in scratch `arg12`: its pieces read back over junk. -/
def sout0_A_0 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) : Vec F S256x7168 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).1)

/-- Case A's pieces for scratch `arg13`, which the kernel carries between points, cover it: 1 piece of `S256x128` tiling it (Lib/Ring.lean `Piece.tiledL`). -/
theorem scover0_A_1 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.1 S256x128.size (by sl_kernel_rfl) y

/-- What case A leaves in scratch `arg13`: its pieces read back over junk. -/
def sout0_A_1 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) : Vec F S256x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.1)

/-- Case A's pieces for scratch `arg14`, which the kernel carries between points, cover it: 56 pieces of `S128x128` tiling it (Lib/Ring.lean `Piece.tiledL`). -/
theorem scover0_A_2 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) (y : S7168x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.2.1 S128x128.size (by sl_kernel_rfl) y

/-- What case A leaves in scratch `arg14`: its pieces read back over junk. -/
def sout0_A_2 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) : Vec F S7168x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.2.1)

/-- Case A's pieces for scratch `arg18`, which the kernel carries between points, cover it: 2 pieces of `S256x128` tiling it (Lib/Ring.lean `Piece.tiledL`). -/
theorem scover0_A_6 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.2.2.1 S256x128.size (by sl_kernel_rfl) y

/-- What case A leaves in scratch `arg18`: its pieces read back over junk. -/
def sout0_A_6 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : cond0_0 i) (hc1 : ¬cond0_1 i)
    (x0 : Vec F S256x7168 .bf16) (x1 : Vec F S1x7168 .f32) (x2 : Vec F S7168x256 .bf16) (x3 : Vec F S1x256 .f32) : Vec F S256x128 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3).2.2.2.1)

/-- Case B stores nothing into scratch `arg12`: it holds what the point before left. -/
def sout0_B_0 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : ¬cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) : Vec F S256x7168 .bf16 := xs0

/-- Case B stores nothing into scratch `arg13`: it holds what the point before left. -/
def sout0_B_1 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : ¬cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) : Vec F S256x128 .f32 := xs1

/-- Case B stores nothing into scratch `arg14`: it holds what the point before left. -/
def sout0_B_2 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : ¬cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) : Vec F S7168x128 .f32 := xs2

/-- Case B's pieces for scratch `arg18`, which the kernel carries between points, cover it: 1 piece of `S256x128` tiling it (Lib/Ring.lean `Piece.tiledL`). -/
theorem scover0_B_6 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : ¬cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) (y : S256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 xs0 xs1 xs2 xs6).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 xs0 xs1 xs2 xs6).2.2.2.1 S256x128.size (by sl_kernel_rfl) y

/-- What case B leaves in scratch `arg18`: its pieces read back over junk. -/
def sout0_B_6 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : ¬cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) : Vec F S256x128 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 xs0 xs1 xs2 xs6).2.2.2.1)

/-- Case C stores nothing into scratch `arg12`: it holds what the point before left. -/
def sout0_C_0 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) : Vec F S256x7168 .bf16 := xs0

/-- Case C stores nothing into scratch `arg13`: it holds what the point before left. -/
def sout0_C_1 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) : Vec F S256x128 .f32 := xs1

/-- Case C stores nothing into scratch `arg14`: it holds what the point before left. -/
def sout0_C_2 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) : Vec F S7168x128 .f32 := xs2

/-- Case C's pieces for scratch `arg18`, which the kernel carries between points, cover it: 1 piece of `S256x128` tiling it (Lib/Ring.lean `Piece.tiledL`). -/
theorem scover0_C_6 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) (y : S256x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 xs0 xs1 xs2 xs6).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 xs0 xs1 xs2 xs6).2.2.2.1 S256x128.size (by sl_kernel_rfl) y

/-- What case C leaves in scratch `arg18`: its pieces read back over junk. -/
def sout0_C_6 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc0 : ¬cond0_0 i) (hc1 : cond0_1 i)
    (x0 : Vec F S256x7168 .bf16) (x1 : Vec F S1x7168 .f32) (x2 : Vec F S7168x256 .bf16) (x3 : Vec F S1x256 .f32) (xs0 : Vec F S256x7168 .bf16) (xs1 : Vec F S256x128 .f32) (xs2 : Vec F S7168x128 .f32) (xs6 : Vec F S256x128 .f32) : Vec F S256x128 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 xs0 xs1 xs2 xs6).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x7168 .bf16 × Vec F S256x128 .f32 × Vec F S7168x128 .f32 × Vec F S256x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 72 = 0 then
      if h1 : (n + 1) % 72 = 71 then
        False.elim (by have hN : n + 1 < 72 := lt_of_lt_of_eq hn (show cfg0.N = 72 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 72 = 71 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 72 = 0) (h1 : ¬t.val % 72 = 71) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 72 = 0) (h1 : ¬t.val % 72 = 71) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 72 = 0) (h1 : t.val % 72 = 71) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2)) ∗ (∃ r, prngReg c r))

/-- Before the first point the scratch invariant is the region's own. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2.2)) ∗ (∃ r, prngReg c r)) := by
  cases n with
  | zero => exact absurd rfl hz
  | succ n => rfl

/-! ## The pipeline's proof data -/

/-- The output windows this certificate FORGETS (4, 5, 6, 7, 8, 9, 10): nothing reads what the kernel leaves in them, so nothing
    of it is named (Lib/Pipeline/Dat.lean `Dat.toRForget`). -/
def forgets0 : Fin 11 → Bool := fun w => w.val == 4 || w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The body leaves input window 1 at its block. -/
theorem after0_1 (c : Dev nD) (t : Fin cfg0.N) : (dats m 0 c).after 1 t = iblk m c 1 t := by dsimp only [dats]
/-- The body leaves input window 2 at its block. -/
theorem after0_2 (c : Dev nD) (t : Fin cfg0.N) : (dats m 0 c).after 2 t = iblk m c 2 t := by dsimp only [dats]
/-- The body leaves input window 3 at its block. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds input window 1 at its block. -/
theorem before0_1 (c : Dev nD) (t : Fin cfg0.N) (d) : (dats m 0 c).before 1 t d = iblk m c 1 t :=
  before0_1_of m (dats m 0 c) (A_eq m c 1) (after0_1 m c) t d
/-- The body finds input window 2 at its block. -/
theorem before0_2 (c : Dev nD) (t : Fin cfg0.N) (d) : (dats m 0 c).before 2 t d = iblk m c 2 t :=
  before0_2_of m (dats m 0 c) (A_eq m c 2) (after0_2 m c) t d
/-- The body finds input window 3 at its block. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 72 := lt_of_lt_of_eq t.isLt (show cfg0.N = 72 from N_0)
  by_cases h0 : t.val % 72 = 0
  · by_cases h1 : t.val % 72 = 71
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · rw [PhiS_castSucc m c t, PhiS_zero m c _ _ hz, PhiA0_eq]
        rw [outsAt0_A m c t h0 h1]
        unfold sout0_A_0 sout0_A_1 sout0_A_2 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, ⟨%es0, HS0⟩, ⟨%es1, HS1⟩, ⟨%es2, HS2⟩, ⟨%fT3, HS3⟩, ⟨%fT4, HS4⟩, HS5, ⟨%es6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _)
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexact HS5
            unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · exfalso; have hN : t.val < 72 := lt_of_lt_of_eq t.isLt (show cfg0.N = 72 from N_0); omega
  · by_cases h1 : t.val % 72 = 71
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 72 := lt_of_lt_of_eq t.isLt (show cfg0.N = 72 from N_0); omega
      · rw [PhiS_castSucc m c t, PhiS_pos m c _ _ hz]
        rw [outsAt0_C m c t h0 h1]
        unfold sout0_C_0 sout0_C_1 sout0_C_2 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, HS0, HS1, HS2, ⟨%fT3, HS3⟩, ⟨%fT4, HS4⟩, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexact HS5
            unfold owns; iexists _; isplitr
            swap; · iexact HS6
            ipureintro; exact View.read_writes_of_cover _ _ _ _ _ (scover0_C_6 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 72 := lt_of_lt_of_eq t.isLt (show cfg0.N = 72 from N_0); omega
      · rw [PhiS_castSucc m c t, PhiS_pos m c _ _ hz]
        rw [outsAt0_B m c t h0 h1]
        unfold sout0_B_0 sout0_B_1 sout0_B_2 sout0_B_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, HS0, HS1, HS2, ⟨%fT3, HS3⟩, ⟨%fT4, HS4⟩, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexact HS5
            unfold owns; iexists _; isplitr
            swap; · iexact HS6
            ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 72 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame at any float type `F`: every run ends, with no semaphore left raised and the argument arrays unchanged.
    Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.Base.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 1 % 72 := Pipeline.Grid.coords_val t 0 (by decide) rfl
    simp only [cond0_0, k0_cond1, e0]
    word_cmp
   : ∀ t : Fin grid0.N, cond0_0 (grid0.coords t) ↔ t.val % 72 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 72 = 71 :=
  (fun t => by
    have ht : t.val < 72 := Nat.lt_of_lt_of_eq t.isLt N_0
    have e0 : (grid0.coords t 0).val = t.val / 1 % 72 := Pipeline.Grid.coords_val t 0 (by decide) rfl
    simp only [cond0_1, k0_cond2, e0]
    word_cmp
   : ∀ t : Fin grid0.N, cond0_1 (grid0.coords t) ↔ t.val % 72 = 71)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
/-- Window 0's buffer is a whole one. -/
abbrev hs0_0 (t : Fin cfg0.N) : (ms0_0 t).IsWhole := hstage0_0 ((cfg0.slots t 0).cast nbuf0_0)
/-- The buffer window 1's block is in at point `t`. -/
abbrev ms0_1 (t : Fin cfg0.N) : Memref sig .tc .vmem S1x7168 .f32 := win0_1.stage (cfg0.slots t 1)
/-- Window 1's buffer is a whole one. -/
abbrev hs0_1 (t : Fin cfg0.N) : (ms0_1 t).IsWhole := hstage0_1 ((cfg0.slots t 1).cast nbuf0_1)
/-- The buffer window 2's block is in at point `t`. -/
abbrev ms0_2 (t : Fin cfg0.N) : Memref sig .tc .vmem S7168x256 .bf16 := win0_2.stage (cfg0.slots t 2)
/-- Window 2's buffer is a whole one. -/
abbrev hs0_2 (t : Fin cfg0.N) : (ms0_2 t).IsWhole := hstage0_2 ((cfg0.slots t 2).cast nbuf0_2)
/-- The buffer window 3's block is in at point `t`. -/
abbrev ms0_3 (t : Fin cfg0.N) : Memref sig .tc .vmem S1x256 .f32 := win0_3.stage (cfg0.slots t 3)
/-- Window 3's buffer is a whole one. -/
abbrev hs0_3 (t : Fin cfg0.N) : (ms0_3 t).IsWhole := hstage0_3 ((cfg0.slots t 3).cast nbuf0_3)
/-- The buffer window 4's block is in at point `t`. -/
abbrev ms0_4 (t : Fin cfg0.N) : Memref sig .tc .vmem S256x18432 .i8 := win0_4.stage (cfg0.slots t 4)
/-- Window 4's buffer is a whole one. -/
abbrev hs0_4 (t : Fin cfg0.N) : (ms0_4 t).IsWhole := hstage0_4 ((cfg0.slots t 4).cast nbuf0_4)
/-- The buffer window 5's block is in at point `t`. -/
abbrev ms0_5 (t : Fin cfg0.N) : Memref sig .tc .vmem S2x128 .f32 := win0_5.stage (cfg0.slots t 5)
/-- Window 5's buffer is a whole one. -/
abbrev hs0_5 (t : Fin cfg0.N) : (ms0_5 t).IsWhole := hstage0_5 ((cfg0.slots t 5).cast nbuf0_5)
/-- The buffer window 6's block is in at point `t`. -/
abbrev ms0_6 (t : Fin cfg0.N) : Memref sig .tc .vmem S1x7168 .f32 := win0_6.stage (cfg0.slots t 6)
/-- Window 6's buffer is a whole one. -/
abbrev hs0_6 (t : Fin cfg0.N) : (ms0_6 t).IsWhole := hstage0_6 ((cfg0.slots t 6).cast nbuf0_6)
/-- The buffer window 7's block is in at point `t`. -/
abbrev ms0_7 (t : Fin cfg0.N) : Memref sig .tc .vmem S7168x256 .i8 := win0_7.stage (cfg0.slots t 7)
/-- Window 7's buffer is a whole one. -/
abbrev hs0_7 (t : Fin cfg0.N) : (ms0_7 t).IsWhole := hstage0_7 ((cfg0.slots t 7).cast nbuf0_7)
/-- The buffer window 8's block is in at point `t`. -/
abbrev ms0_8 (t : Fin cfg0.N) : Memref sig .tc .vmem S1x256 .f32 := win0_8.stage (cfg0.slots t 8)
/-- Window 8's buffer is a whole one. -/
abbrev hs0_8 (t : Fin cfg0.N) : (ms0_8 t).IsWhole := hstage0_8 ((cfg0.slots t 8).cast nbuf0_8)
/-- The buffer window 9's block is in at point `t`. -/
abbrev ms0_9 (t : Fin cfg0.N) : Memref sig .tc .vmem S256x7168 .i8 := win0_9.stage (cfg0.slots t 9)
/-- Window 9's buffer is a whole one. -/
abbrev hs0_9 (t : Fin cfg0.N) : (ms0_9 t).IsWhole := hstage0_9 ((cfg0.slots t 9).cast nbuf0_9)
/-- The buffer window 10's block is in at point `t`. -/
abbrev ms0_10 (t : Fin cfg0.N) : Memref sig .tc .vmem S2x128 .f32 := win0_10.stage (cfg0.slots t 10)
/-- Window 10's buffer is a whole one. -/
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x7168 .bf16 := Memref.whole cc0_scratch0
/-- Scratch buffer 1. -/
abbrev scM0_1 : Memref sig .tc .vmem S256x128 .f32 := Memref.whole cc0_scratch1
/-- Scratch buffer 2. -/
abbrev scM0_2 : Memref sig .tc .vmem S7168x128 .f32 := Memref.whole cc0_scratch2
/-- Scratch buffer 3. -/
abbrev scM0_3 : Memref sig .tc .vmem S7168x256 .f32 := Memref.whole cc0_scratch3
/-- Scratch buffer 4. -/
abbrev scM0_4 : Memref sig .tc .vmem S7168x256 .bf16 := Memref.whole cc0_scratch4
/-- Scratch buffer 5. -/
abbrev scM0_5 : Memref sig .tc .vmem S72x256x256 .f32 := Memref.whole cc0_scratch5
/-- Scratch buffer 6. -/
abbrev scM0_6 : Memref sig .tc .vmem S256x128 .f32 := Memref.whole cc0_scratch6
/-- The scratch `arg12` the kernel carries between points, as a view: what it holds is stated through it. -/
abbrev VS0_0 : View sig .tc .vmem S256x7168 .bf16 := scM0_0.view
/-- The scratch `arg13` the kernel carries between points, as a view: what it holds is stated through it. -/
abbrev VS0_1 : View sig .tc .vmem S256x128 .f32 := scM0_1.view
/-- The scratch `arg14` the kernel carries between points, as a view: what it holds is stated through it. -/
abbrev VS0_2 : View sig .tc .vmem S7168x128 .f32 := scM0_2.view
/-- The scratch `arg18` the kernel carries between points, as a view: what it holds is stated through it. -/
abbrev VS0_6 : View sig .tc .vmem S256x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## The two conditional parts of the body as programs -/

/-- The part of the body that runs at the first point only. -/
noncomputable def headProg (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) :
    Prog (TpuEff nD τ sig (Elt F) Λ₀ .tc) PUnit := do
  if k0_h1 : k0_cond1 i = 1#1 then do
    let ⟨v4957, v5695, v5700⟩ : Σ' (v4957 : FVec F S256x128 .f32) (v5695 : FVec F S256x128 .f32), FVec F S256x128 .f32 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4957 v5695 v5700
    pure ⟨⟩
  else do
    pure ⟨⟩

/-- The part of the body that runs at the last point only. -/
noncomputable def tailProg (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) :
    Prog (TpuEff nD τ sig (Elt F) Λ₀ .tc) PUnit := do
  if k0_h2 : k0_cond2 i = 1#1 then do
    let ⟨v3384, v3395⟩ : Σ' (v3384 : FVec F S256x256 .f32), Vec F S1x256x256 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let ⟨cst_430, v3429⟩ : Σ' (cst_430 : F .f32), FVec F S256x256 .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3395
    let v3463 : IVec S256x256 8 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 cst_430 v3429
    let v3495 : Vec F S1x256x256 .f32 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3463
    let ⟨cst_490, v3529⟩ : Σ' (cst_490 : F .f32), FVec F S256x256 .f32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3495
    let v3563 : IVec S256x256 8 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 cst_490 v3529
    let v3595 : Vec F S1x256x256 .f32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3563
    let ⟨cst_550, v3629⟩ : Σ' (cst_550 : F .f32), FVec F S256x256 .f32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3595
    let v3663 : IVec S256x256 8 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 cst_550 v3629
    let v3695 : Vec F S1x256x256 .f32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3663
    let ⟨cst_604, v3729⟩ : Σ' (cst_604 : F .f32), FVec F S256x256 .f32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3695
    let v3763 : IVec S256x256 8 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 cst_604 v3729
    let v3795 : Vec F S1x256x256 .f32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3763
    let ⟨cst_654, v3829⟩ : Σ' (cst_654 : F .f32), FVec F S256x256 .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3795
    let v3863 : IVec S256x256 8 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 cst_654 v3829
    let v3895 : Vec F S1x256x256 .f32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3863
    let ⟨cst_704, v3929⟩ : Σ' (cst_704 : F .f32), FVec F S256x256 .f32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3895
    let v3963 : IVec S256x256 8 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 cst_704 v3929
    let v3995 : Vec F S1x256x256 .f32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3963
    let ⟨cst_754, v4029⟩ : Σ' (cst_754 : F .f32), FVec F S256x256 .f32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v3995
    let v4063 : IVec S256x256 8 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 cst_754 v4029
    let v4095 : Vec F S1x256x256 .f32 ← k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3384 v4063
    let v4104 : Vec F S256x256 .i8 ← Prog.lift (.load arg5 (Rect.unit (s := S256x18432) ![0, 18176] S256x256.size inb_S256x18432_S256x256_0_18176).toLoadRect (View.loadsAt_vmem h_S256x256))
    Prog.lift (.store arg5 (Rect.unit (s := S256x18432) ![0, 18176] S256x256.size inb_S256x18432_S256x256_0_18176) (k0_pay4 v3384 v4095) Finset.univ (View.stores_vmem h_S256x256 (harg5.storeExact_slice rfl _ packedi8_S256x18432_S256x256_0_18176) (fun _ => rfl)) (.inl rfl))
    pure ⟨⟩
  else do
    pure ⟨⟩

end Cert.KernelIdeal.Hand

end
-- ==== Proof.Spec.lean ====
module

public import proofs.«01_k».proof.Proof.Base
public import Idealize.ShloMosaic.Lib.Pointwise
public import Idealize.ShloMosaic.PureOps.Ideal
public import Idealize.ShloMosaic.Lib.Pipeline.Value
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- Absolute value of an extended real. -/
def abE (a : EReal) : EReal := max a (-a)

/-- The absolute value operation is `abE`. -/
theorem absf_eq {φ : FTy} (a : Ideal φ) : FloatOps.absf a = abE a := rfl

/-- An absolute value is never negative. -/
theorem abE_nonneg (a : EReal) : 0 ≤ abE a := by
  unfold abE
  rcases le_total 0 a with h | h
  · exact le_max_of_le_left h
  · exact le_max_of_le_right (EReal.neg_nonneg.2 h)

/-- The lower bound `1e-5` (as an f32) of both maxima that make a smoothing factor. -/
def c5 : EReal := Ideal.ofBits .f32 0x3727C5AC#32

/-- The named constant `1 / 127`. -/
def i127 : EReal := Named.named (F := Ideal) κ "inv_127" (φ := .f32) 0x3C010204#32

/-- The largest absolute value of finitely many numbers. -/
def amx {n : ℕ} (g : Fin n → EReal) : EReal := Finset.univ.sup fun k => abE (g k)

/-- The scale that belongs to a largest absolute value: `a / 127`, or one when `a` is zero. -/
def scl (a : EReal) : EReal := if a = 0 then 1 else a * i127

/-- The smoothing factor of a column whose largest absolute value in `x` is `a` and in `w` is `b`. -/
def sfac (a b : EReal) : EReal := Ideal.sqrt (max a c5) * Ideal.rsqrt (max b c5)

/-- The code of the number `v` at scale `1 / u`. -/
def code (v u : EReal) : BitVec 8 :=
  FloatOps.fptosi (F := Ideal) (φ := .f32) 8 (Ideal.liftRound Ideal.roundHalfEven
    (min (Ideal.ofBits .f32 0x42FE0000#32) (max (Ideal.ofBits .f32 0xC2FE0000#32) (v * u))))

/-- A code read back as a number. -/
def num (b : BitVec 8) : EReal := FloatOps.sitofp (F := Ideal) .bf16 b

/-- The pattern of minus infinity is the least number. -/
theorem ofBits_neg_inf : Ideal.ofBits .f32 0xFF800000#32 = ⊥ := by
  simp [Ideal.ofBits, Ideal.ieee]

/-- Folding maxima of absolute values from minus infinity gives the largest absolute value. -/
theorem fold_max_abE {n : ℕ} (g : Fin n → EReal) :
    Finset.univ.fold max (Ideal.ofBits .f32 0xFF800000#32) (fun k => abE (g k)) = amx g := by
  rw [ofBits_neg_inf]; rfl

/-- A bound on the largest absolute value bounds each one. -/
theorem amx_le {n : ℕ} (g : Fin n → EReal) (b : EReal) : amx g ≤ b ↔ ∀ k, abE (g k) ≤ b := by
  simp [amx, Finset.sup_le_iff]

/-- A bound on a folded maximum bounds each entry. -/
theorem fold_max_le {n : ℕ} (g : Fin n → EReal) (b : EReal) :
    Finset.univ.fold max (Ideal.ofBits .f32 0xFF800000#32) g ≤ b ↔ ∀ k, g k ≤ b := by
  rw [ofBits_neg_inf]; exact (Finset.sup_le_iff (f := g)).trans (by simp)

/-! ### The values of the whole computation, at an index -/

/-- The smoothing factor of column `c`. -/
def sF (x : Vec Ideal S256x7168 .bf16) (wa : Vec Ideal S1x7168 .f32) (c : Fin 7168) : EReal :=
  sfac (amx fun r : Fin 256 => x (ix2 r c)) (wa (ix2 0 c))

/-- `x` divided by the smoothing factors `s`. -/
def xdv (x : Vec Ideal S256x7168 .bf16) (s : Fin 7168 → EReal) (r : Fin 256) (c : Fin 7168) : EReal :=
  x (ix2 r c) * Ideal.div 1 (s c)

/-- The scale of row `r` of `x`. -/
def xscl (x : Vec Ideal S256x7168 .bf16) (s : Fin 7168 → EReal) (r : Fin 256) : EReal :=
  scl (amx fun c : Fin 7168 => xdv x s r c)

/-- The code of `x` at `(r, c)`. -/
def xcode (x : Vec Ideal S256x7168 .bf16) (s : Fin 7168 → EReal) (r : Fin 256) (c : Fin 7168) : BitVec 8 :=
  code (xdv x s r c) (Ideal.div 1 (xscl x s r))

/-- A block of `w` times the smoothing factors. -/
def wml (w : Vec Ideal S7168x256 .bf16) (s : Fin 7168 → EReal) (k : Fin 7168) (c : Fin 256) : EReal :=
  w (ix2 k c) * s k

/-- The scale of column `c` of a block of `w`. -/
def wscl (w : Vec Ideal S7168x256 .bf16) (s : Fin 7168 → EReal) (c : Fin 256) : EReal :=
  scl (amx fun k : Fin 7168 => wml w s k c)

/-- The code of `w` at `(k, c)` of a block. -/
def wcode (w : Vec Ideal S7168x256 .bf16) (s : Fin 7168 → EReal) (k : Fin 7168) (c : Fin 256) : BitVec 8 :=
  code (wml w s k c) (Ideal.div 1 (wscl w s c))

/-- The result before its own quantization, at `(r, c)` of a block: from the codes `xb` of `x` and scales `xs` of its rows. -/
def zval (xb : Fin 256 → Fin 7168 → EReal) (xs : Fin 256 → EReal) (w : Vec Ideal S7168x256 .bf16) (s : Fin 7168 → EReal)
    (bias : Vec Ideal S1x256 .f32) (r : Fin 256) (c : Fin 256) : EReal :=
  (∑ k : Fin 7168, xb r k * num (wcode w s k c)) * xs r * wscl w s c + bias (ix2 0 c)

end Cert.KernelIdeal.Hand

end
-- ==== Proof.RunHead.lean ====
module

public import proofs.«01_k».proof.Proof.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 6000000 in
/-- What the part of the body that runs at the first point only leaves in the buffers it writes, as pieces (last first): the witness the run finds. -/
noncomputable def headRun (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc : cond0_0 i)
    (x1 : Vec F S256x7168 .bf16) (x2 : Vec F S1x7168 .f32) :
    Σ' (L7 : List (View.Piece (Elt F) S1x7168 .f32)), Σ' (L10 : List (View.Piece (Elt F) S256x7168 .i8)), Σ' (L11 : List (View.Piece (Elt F) S2x128 .f32)), Σ' (L12 : List (View.Piece (Elt F) S256x7168 .bf16)), Σ' (L13 : List (View.Piece (Elt F) S256x128 .f32)), Σ' (L14 : List (View.Piece (Elt F) S7168x128 .f32)), { L18 : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg7 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg18 fullShare d)
            ∗ (iprop(owns (c : Thread nD τ) arg1 fullShare x1 ∗ owns (c : Thread nD τ) arg2 fullShare x2 ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg18.view.loc (c : Thread nD τ) ↦[arg18.view.set]{fullShare} arg18.view.writes (Elt F) f L18)) -∗ K ⟨⟩))
          ⊢ wp frame (wpE (defs₀ (F := F)) Variants.none c none) E (headProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    unfold headProg
    simp only [k0_part72_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part73_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f1, %hf1, H1⟩, ⟨%f2, %hf2, H2⟩, ⟨%d7, %f7, -, H7⟩, ⟨%d10, %f10, -, H10⟩, ⟨%d11, %f11, -, H11⟩, ⟨%d12, %f12, -, H12⟩, ⟨%d13, %f13, -, H13⟩, ⟨%d14, %f14, -, H14⟩, ⟨%d18, %f18, -, H18⟩, Hk⟩
    obtain rfl := harg1.eq_unread hf1; obtain rfl := harg2.eq_unread hf2
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H7]; · iexists _; iexact H7
    isplitl [H10]; · iexists _; iexact H10
    isplitl [H11]; · iexists _; iexact H11
    isplitl [H12]; · iexists _; iexact H12
    isplitl [H13]; · iexists _; iexact H13
    isplitl [H14]; · iexists _; iexact H14
    iexists _; iexact H18

end Cert.KernelIdeal.Hand

end
-- ==== Proof.HeadVal.lean ====
module

public import proofs.«01_k».proof.Proof.Spec
public import proofs.«01_k».proof.Proof.RunHead
public import Idealize.ShloMosaic.Lib.Pointwise
public import Idealize.ShloMosaic.PureOps.Ideal
public import Idealize.ShloMosaic.Lib.Pipeline.Value
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

section Generic
variable {F : FTy → Type} [FloatOps F] [Named F]

/-- The smoothing factors of 128 columns, from the columns of `x` and the column maxima of `w`. -/
def sP (a : Vec F S256x128 .bf16) (b : Vec F S1x128 .f32) : FVec F S1x128 .f32 :=
  mulf (sqrt (maximumf (shapeCast S1x128 (multiReduction .maximumf [0] S128 (absf (extf .f32 (shapeCast S256x128 a shapeCasts_S256x128_S256x128) bitsLt_bf16_f32)) 0xFF800000#32 reduces_S256x128_S128 (.inl rfl) rfl) shapeCasts_S128_S1x128) (broadcast S1x128 (Scalar.ofBits (F := F) .f32 0x3727C5AC#32))))
    (rsqrt (maximumf (shapeCast S1x128 b shapeCasts_S1x128_S1x128) (broadcast S1x128 (Scalar.ofBits (F := F) .f32 0x3727C5AC#32))))

/-- One step of the row maxima of `x`: 128 more columns. -/
def xStep (V : FVec F S256x128 .f32) (a : Vec F S256x128 .bf16) (s : FVec F S1x128 .f32) : FVec F S256x128 .f32 :=
  maximumf V (absf (mulf (extf .f32 (shapeCast S256x128 a shapeCasts_S256x128_S256x128) bitsLt_bf16_f32)
    (broadcastTo S256x128 (divf (broadcast S1x128 (Scalar.ofBits (F := F) .f32 0x3F800000#32)) s) broadcasts_S1x128_S256x128)))

/-- 128 smoothing factors, one per row, each repeated along its row. -/
def stP (s : FVec F S1x128 .f32) : FVec F S128x128 .f32 :=
  k0_pay239 (broadcastTo S128x128 (shapeCast S1x128 s shapeCasts_S1x128_S1x128) broadcasts_S1x128_S128x128)

end Generic

/-- Pieces that all carry one function: one piece more. -/
theorem all_cons {S : Shape} {e : EltTy} (G : S.Idx → Elt Ideal e) (r : Rect S) (w : r.shape.Idx → Elt Ideal e)
    (L : List (View.Piece (Elt Ideal) S e)) (h1 : ∀ y, w y = G (r.emb y)) (h2 : ∀ p ∈ L, ∀ y : p.1.shape.Idx, p.2 y = G (p.1.emb y)) :
    ∀ p ∈ ((⟨r, w⟩ : View.Piece (Elt Ideal) S e) :: L), ∀ y : p.1.shape.Idx, p.2 y = G (p.1.emb y) := by
  intro p hp
  rcases List.mem_cons.1 hp with rfl | h
  · exact h1
  · exact h2 p h

/-- No pieces carry any function. -/
theorem all_nil {S : Shape} {e : EltTy} (G : S.Idx → Elt Ideal e) :
    ∀ p ∈ ([] : List (View.Piece (Elt Ideal) S e)), ∀ y : p.1.shape.Idx, p.2 y = G (p.1.emb y) :=
  fun p hp => absurd hp List.not_mem_nil

/-- An entry of a chunk's smoothing factors. -/
theorem sP_apply (a : Vec Ideal S256x128 .bf16) (b : Vec Ideal S1x128 .f32) (j : Fin 128) :
    sP (F := Ideal) a b (ix2 0 j) = sfac (amx fun r : Fin 256 => a (ix2 r j)) (b (ix2 0 j)) := by
  pointwise [sP]
  simp only [absf_eq, fold_max_abE]
  rfl

/-- A read of a whole buffer that holds a given value reads that value. -/
theorem readAt_unread {sig : RefSig} {κ : Kind} {sp : Space} {s : Shape} {e : EltTy} {m : Memref sig κ sp s e}
    (h : m.IsWhole) (X : s.Idx → Elt Ideal e) (r : Rect s) :
    m.view.readAt (Elt Ideal) r (h.unread X) = View.ld X r := by
  rw [View.readAt_eq_ld, h.read_unread]

section Pieces
variable (x1 : Vec Ideal S256x7168 .bf16) (x2 : Vec Ideal S1x7168 .f32)
  (arg1 : Memref sig .tc .vmem S256x7168 .bf16) (harg1 : arg1.IsWhole) (arg2 : Memref sig .tc .vmem S1x7168 .f32) (harg2 : arg2.IsWhole)
  (arg7 : Memref sig .tc .vmem S1x7168 .f32)

/-- A chunk's smoothing factors are those of its columns. -/
theorem s_chunk (o : ℕ) (h1) (h2) (h : o + 128 ≤ 7168) (j : Fin 128) :
    sP (F := Ideal) (arg1.view.readAt (Elt Ideal) (Rect.unit (s := S256x7168) ![0, o] S256x128.size h1).toLoadRect (harg1.unread x1))
      (arg2.view.readAt (Elt Ideal) (Rect.unit (s := S1x7168) ![0, o] S1x128.size h2).toLoadRect (harg2.unread x2)) (ix2 0 j)
    = sF x1 x2 ⟨o + j, by omega⟩ := by
  rw [readAt_unread, readAt_unread, sP_apply]
  pointwise [sF]

/-- The smoothing factors as a row. -/
def sV : Vec Ideal S1x7168 .f32 := fun j => sF x1 x2 (j 1)

/-- The row of factors a chunk stores is part of `sV`. -/
theorem s_piece (o : ℕ) (h1) (h2) (h3) (y : S1x128.Idx) :
    sP (F := Ideal) (arg1.view.readAt (Elt Ideal) (Rect.unit (s := S256x7168) ![0, o] S256x128.size h1).toLoadRect (harg1.unread x1))
      (arg2.view.readAt (Elt Ideal) (Rect.unit (s := S1x7168) ![0, o] S1x128.size h2).toLoadRect (harg2.unread x2)) y
    = sV x1 x2 ((Rect.unit (s := S1x7168) ![0, o] S1x128.size h3).emb y) := by
  have hb : o + 128 ≤ 7168 := h3 1
  idx_vars y
  obtain rfl := Subsingleton.elim y0 0
  rw [s_chunk _ _ _ _ _ _ _ _ _ hb]
  unfold sV
  congr 1
  apply Fin.ext
  show o + y1.val = o + 1 * y1.val
  omega

/-- The smoothing factors, one per row, each repeated along its row. -/
def stV : Vec Ideal S7168x128 .f32 := fun j => sF x1 x2 (j 0)

/-- The transposed factors a chunk stores are part of `stV`. -/
theorem st_piece (o : ℕ) (h1) (h2) (h3) (y : S128x128.Idx) :
    stP (F := Ideal) (sP (F := Ideal) (arg1.view.readAt (Elt Ideal) (Rect.unit (s := S256x7168) ![0, o] S256x128.size h1).toLoadRect (harg1.unread x1))
      (arg2.view.readAt (Elt Ideal) (Rect.unit (s := S1x7168) ![0, o] S1x128.size h2).toLoadRect (harg2.unread x2))) y
    = stV x1 x2 ((Rect.unit (s := S7168x128) ![o, 0] S128x128.size h3).emb y) := by
  have hb : o + 128 ≤ 7168 := h3 0
  idx_vars y
  have e : ∀ s : FVec Ideal S1x128 .f32, stP (F := Ideal) s (ix2 y0 y1) = s (ix2 0 y0) := by
    intro s; pointwise [stP, k0_pay239]
  rw [e, s_chunk _ _ _ _ _ _ _ _ _ hb]
  unfold stV
  congr 1
  apply Fin.ext
  show o + y0.val = o + 1 * y0.val
  omega

/-- `V` holds, per row and lane, the maximum of zero and the absolute values met in the columns below `n`. -/
def AccX (s : Fin 7168 → EReal) (n : ℕ) (V : FVec Ideal S256x128 .f32) : Prop :=
  ∀ (r : Fin 256) (l : Fin 128) (b : EReal),
    V (ix2 r l) ≤ b ↔ 0 ≤ b ∧ ∀ c : Fin 7168, c.val < n → c.val % 128 = l.val → abE (xdv x1 s r c) ≤ b

/-- Before the first chunk the running maxima are zero. -/
theorem accX_zero (s : Fin 7168 → EReal) : AccX x1 s 0 (broadcast S256x128 (Scalar.ofBits (F := Ideal) .f32 0x00000000#32)) := by
  intro r l b
  pointwise []
  simp

/-- What one chunk does to a running maximum. -/
theorem xStep_apply (V : FVec Ideal S256x128 .f32) (a : Vec Ideal S256x128 .bf16) (s : FVec Ideal S1x128 .f32) (r : Fin 256) (l : Fin 128) :
    xStep (F := Ideal) V a s (ix2 r l) = max (V (ix2 r l)) (abE (a (ix2 r l) * Ideal.div 1 (s (ix2 0 l)))) := by
  pointwise [xStep]
  rfl

/-- A chunk extends the running maxima by its columns. -/
theorem accX_step (n o : ℕ) (V : FVec Ideal S256x128 .f32) (h1) (h2) (h : AccX x1 (sF x1 x2) o V) (hm : o % 128 = 0) (hn : n = o + 128) :
    AccX x1 (sF x1 x2) n (xStep (F := Ideal) V (arg1.view.readAt (Elt Ideal) (Rect.unit (s := S256x7168) ![0, o] S256x128.size h1).toLoadRect (harg1.unread x1))
      (sP (F := Ideal) (arg1.view.readAt (Elt Ideal) (Rect.unit (s := S256x7168) ![0, o] S256x128.size h1).toLoadRect (harg1.unread x1))
      (arg2.view.readAt (Elt Ideal) (Rect.unit (s := S1x7168) ![0, o] S1x128.size h2).toLoadRect (harg2.unread x2)))) := by
  have hb : o + 128 ≤ 7168 := h2 1
  intro r l b
  rw [xStep_apply, s_chunk _ _ _ _ _ _ _ _ _ hb, max_le_iff, h r l b, and_assoc]
  refine and_congr_right fun _ => ?_
  have e : arg1.view.readAt (Elt Ideal) (Rect.unit (s := S256x7168) ![0, o] S256x128.size h1).toLoadRect (harg1.unread x1) (ix2 r l) = x1 (ix2 r ⟨o + l, by omega⟩) := by
    rw [readAt_unread]; pointwise []
  rw [e]
  constructor
  · rintro ⟨hA, hB⟩ c hc hl
    by_cases hlt : c.val < o
    · exact hA c hlt hl
    · have : c = ⟨o + l, by omega⟩ := Fin.ext (by show c.val = o + l.val; omega)
      rw [this]; exact hB
  · intro hA
    refine ⟨fun c hc hl => hA c (by omega) hl, hA ⟨o + l, by omega⟩ (by show o + l.val < n; omega) (by show (o + l.val) % 128 = l.val; omega)⟩

/-- All stores of the factors are parts of `sV`. -/
theorem head_S (c : Dev nD) : ∀ p ∈ headRun.sl.H7_56 (F := Ideal) c arg1 harg1 arg2 harg2 x1 x2, ∀ y : p.1.shape.Idx, p.2 y = sV x1 x2 (p.1.emb y) := by
  iterate 56 refine all_cons _ _ _ _ (fun y => s_piece x1 x2 arg1 harg1 arg2 harg2 _ _ _ _ y) ?_
  exact all_nil _

/-- The running maxima before the last chunk. -/
theorem head_acc (c : Dev nD) : AccX x1 (sF x1 x2) 7040 (headRun.sl.v4900 (F := Ideal) c arg1 harg1 arg2 harg2 x1 x2) := by
  iterate 55 refine accX_step x1 x2 arg1 harg1 arg2 harg2 _ _ _ _ _ ?_ (by decide) (by rfl)
  exact accX_zero _ _

/-- The stores of the factors cover their row. -/
theorem head_cov (c : Dev nD) : ∀ y : S1x7168.Idx, ∃ p ∈ headRun.sl.H7_56 (F := Ideal) c arg1 harg1 arg2 harg2 x1 x2, y ∈ p.1.set :=
  View.cover_of_tiledL _ S1x128.size (by sl_kernel_rfl)

/-- A read of stored pieces that agree with `G` reads `G`. -/
theorem readCov_piece {S : Shape} {e : EltTy} {sig : RefSig} {κ : Kind} {sp : Space} (v : View sig κ sp S e) (L : List (View.Piece (Elt Ideal) S e)) (G : S.Idx → Elt Ideal e)
    (hL : ∀ p ∈ L, ∀ y : p.1.shape.Idx, p.2 y = G (p.1.emb y)) (hc : ∀ y : S.Idx, ∃ p ∈ L, y ∈ p.1.set) (r : Rect S) :
    v.readCov L r.toLoadRect = View.ld G r := by
  rw [View.readCov_eq_canon_ld _ _ _ hc]
  congr 1
  exact funext fun y => View.canon_apply_of_pieces G L hL y (hc y)

/-- The column of scales made of accumulated row maxima. -/
theorem pay240 (V : FVec Ideal S256x128 .f32) (a : Vec Ideal S256x128 .bf16) (sc : FVec Ideal S1x128 .f32) (s : Fin 7168 → EReal)
    (h : AccX x1 s 7168 (xStep (F := Ideal) V a sc)) (r : Fin 256) :
    k0_pay240 (F := Ideal) V (extf .f32 (shapeCast S256x128 a shapeCasts_S256x128_S256x128) bitsLt_bf16_f32) sc (ix2 r 0) = xscl x1 s r := by
  have e : Finset.univ.fold max (Ideal.ofBits .f32 0xFF800000#32) (fun l : Fin 128 => xStep (F := Ideal) V a sc (ix2 r l))
      = amx fun c : Fin 7168 => xdv x1 s r c := by
    refine eq_of_forall_ge_iff fun b => ?_
    rw [fold_max_le, amx_le]
    constructor
    · intro hA c
      exact ((h r ⟨c.val % 128, Nat.mod_lt _ (by omega)⟩ b).1 (hA _)).2 c c.isLt rfl
    · intro hA l
      exact (h r l b).2 ⟨(abE_nonneg _).trans (hA ⟨0, by omega⟩), fun c _ _ => hA c⟩
  simp only [xStep_apply] at e
  pointwise [k0_pay240]
  simp only [absf_eq, e]
  rfl

section Head
variable (c : Dev nD)

/-- The running maxima after the last chunk. -/
theorem head_acc' : AccX x1 (sF x1 x2) 7168 (xStep (F := Ideal) (headRun.sl.v4900 (F := Ideal) c arg1 harg1 arg2 harg2 x1 x2)
    (arg1.view.readAt (Elt Ideal) (Rect.unit (s := S256x7168) ![0, 7040] S256x128.size inb_S256x7168_S256x128_0_7040).toLoadRect (harg1.unread x1))
    (headRun.sl.v4915 (F := Ideal) c arg1 harg1 arg2 harg2 x1 x2)) :=
  accX_step x1 x2 arg1 harg1 arg2 harg2 _ _ _ _ _ (head_acc x1 x2 arg1 harg1 arg2 harg2 c) (by decide) (by rfl)

/-- The scale of a row of `x`. -/
theorem head_scl (r : Fin 256) : k0_pay240 (F := Ideal) (headRun.sl.v4900 c arg1 harg1 arg2 harg2 x1 x2) (headRun.sl.v4903 c arg1 harg1 x1)
    (headRun.sl.v4915 c arg1 harg1 arg2 harg2 x1 x2) (ix2 r 0) = xscl x1 (sF x1 x2) r :=
  pay240 x1 _ _ _ _ (head_acc' x1 x2 arg1 harg1 arg2 harg2 c) r

/-- The reciprocal of a row's scale. -/
theorem head_r6 (r : Fin 256) (l : Fin 128) : headRun.sl.r_6 (F := Ideal) c arg1 harg1 arg2 harg2 x1 x2 (ix2 r l) = Ideal.div 1 (xscl x1 (sF x1 x2) r) := by
  rw [← head_scl x1 x2 arg1 harg1 arg2 harg2 c]
  unfold headRun.sl.r_6
  pointwise [k0_pay244]

/-- The codes of `x`. -/
def xqV : Vec Ideal S256x7168 .i8 := fun j => xcode x1 (sF x1 x2) (j 0) (j 1)
/-- The codes of `x` as numbers. -/
def xbV : Vec Ideal S256x7168 .bf16 := fun j => num (xcode x1 (sF x1 x2) (j 0) (j 1))
/-- The scales of the rows of `x`, as a 2 × 128 block. -/
def xsV : Vec Ideal S2x128 .f32 := fun j => xscl x1 (sF x1 x2) ⟨128 * (j 0).val + (j 1).val, by
  have h0 : (j 0).val < 2 := (j 0).isLt; have h1 : (j 1).val < 128 := (j 1).isLt; omega⟩
/-- The scales of the rows of `x`, each repeated along its row. -/
def xcV : Vec Ideal S256x128 .f32 := fun j => xscl x1 (sF x1 x2) (j 0)

/-- All zero. -/
def zeroV : Vec Ideal S256x128 .f32 := fun _ => (0 : EReal)

/-- The operations that make a code are `code`. -/
theorem code_eq (v u : EReal) : FloatOps.fptosi (F := Ideal) (φ := .f32) 8 (Ideal.liftRound Ideal.roundHalfEven
    (min (Ideal.ofBits .f32 0x42FE0000#32) (max (Ideal.ofBits .f32 0xC2FE0000#32) (v * u)))) = code v u := rfl

/-- The code a chunk stores at one place. -/
theorem xq_at (o : ℕ) (h1) (h2) (hb : o + 128 ≤ 7168) (r : Fin 256) (l : Fin 128) :
    k0_pay381 (F := Ideal) (headRun.sl.r_6 c arg1 harg1 arg2 harg2 x1 x2)
      (arg1.view.readAt (Elt Ideal) (Rect.unit (s := S256x7168) ![0, o] S256x128.size h1).toLoadRect (harg1.unread x1))
      (arg7.view.readCov (headRun.sl.H7_56 c arg1 harg1 arg2 harg2 x1 x2) (Rect.unit (s := S1x7168) ![0, o] S1x128.size h2).toLoadRect) (ix2 r l)
    = xcode x1 (sF x1 x2) r ⟨o + l, by omega⟩ := by
  rw [readAt_unread, readCov_piece _ _ _ (head_S x1 x2 arg1 harg1 arg2 harg2 c) (head_cov x1 x2 arg1 harg1 arg2 harg2 c)]
  pointwise [k0_pay381]
  simp only [head_r6]
  rfl

/-- The codes a chunk stores are part of `xqV`. -/
theorem xq_piece (o : ℕ) (h1) (h2) (h3) (y : S256x128.Idx) :
    k0_pay381 (F := Ideal) (headRun.sl.r_6 c arg1 harg1 arg2 harg2 x1 x2)
      (arg1.view.readAt (Elt Ideal) (Rect.unit (s := S256x7168) ![0, o] S256x128.size h1).toLoadRect (harg1.unread x1))
      (arg7.view.readCov (headRun.sl.H7_56 c arg1 harg1 arg2 harg2 x1 x2) (Rect.unit (s := S1x7168) ![0, o] S1x128.size h2).toLoadRect) y
    = xqV x1 x2 ((Rect.unit (s := S256x7168) ![0, o] S256x128.size h3).emb y) := by
  have hb : o + 128 ≤ 7168 := h3 1
  idx_vars y
  rw [xq_at _ _ _ _ _ _ _ _ _ _ _ hb]
  unfold xqV
  congr 1
  · apply Fin.ext; show y0.val = 0 + 1 * y0.val; omega
  · apply Fin.ext; show o + y1.val = o + 1 * y1.val; omega

/-- The codes a chunk stores as numbers are part of `xbV`. -/
theorem xb_piece (o : ℕ) (h1) (h2) (h3) (y : S256x128.Idx) :
    k0_pay382 (F := Ideal) (headRun.sl.r_6 c arg1 harg1 arg2 harg2 x1 x2)
      (arg1.view.readAt (Elt Ideal) (Rect.unit (s := S256x7168) ![0, o] S256x128.size h1).toLoadRect (harg1.unread x1))
      (arg7.view.readCov (headRun.sl.H7_56 c arg1 harg1 arg2 harg2 x1 x2) (Rect.unit (s := S1x7168) ![0, o] S1x128.size h2).toLoadRect) y
    = xbV x1 x2 ((Rect.unit (s := S256x7168) ![0, o] S256x128.size h3).emb y) := by
  have e := xq_piece x1 x2 arg1 harg1 arg2 harg2 arg7 c o h1 h2 h3 y
  have e2 : ∀ (p : FVec Ideal S256x128 .f32) q t, k0_pay382 (F := Ideal) p q t y = num (k0_pay381 (F := Ideal) p q t y) := by
    intro p q t
    idx_vars y
    unfold k0_pay382
    pointwise []
    rfl
  rw [e2, e]
  rfl

end Head
end Pieces

section Runs
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc : cond0_0 i)
    (x1 : Vec Ideal S256x7168 .bf16) (x2 : Vec Ideal S1x7168 .f32)

/-- The first point stores the smoothing factors. -/
theorem head_L7 : ∀ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).1, ∀ y : p.1.shape.Idx, p.2 y = sV x1 x2 (p.1.emb y) :=
  head_S x1 x2 arg1 harg1 arg2 harg2 c

/-- The first point stores the codes of `x`. -/
theorem head_L10 : ∀ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.1, ∀ y : p.1.shape.Idx, p.2 y = xqV x1 x2 (p.1.emb y) := by
  iterate 56 refine all_cons _ _ _ _ (fun y => xq_piece x1 x2 arg1 harg1 arg2 harg2 arg7 c _ _ _ _ y) ?_
  exact all_nil _

/-- The first point stores the codes of `x` as numbers. -/
theorem head_L12 : ∀ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.1, ∀ y : p.1.shape.Idx, p.2 y = xbV x1 x2 (p.1.emb y) := by
  iterate 56 refine all_cons _ _ _ _ (fun y => xb_piece x1 x2 arg1 harg1 arg2 harg2 arg7 c _ _ _ _ y) ?_
  exact all_nil _

/-- The first point stores the factors down a column. -/
theorem head_L14 : ∀ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.2.2.1, ∀ y : p.1.shape.Idx, p.2 y = stV x1 x2 (p.1.emb y) := by
  iterate 56 refine all_cons _ _ _ _ (fun y => st_piece x1 x2 arg1 harg1 arg2 harg2 _ _ _ _ y) ?_
  exact all_nil _

/-- The first point stores the scales of `x`, a row for each 128 tokens. -/
theorem head_L11 : ∀ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.1, ∀ y : p.1.shape.Idx, p.2 y = xsV x1 x2 (p.1.emb y) := by
  refine all_cons _ _ _ _ (fun y => ?_) (all_cons _ _ _ _ (fun y => ?_) (all_nil _))
  · change S1x128.Idx at y
    idx_vars y
    obtain rfl := Subsingleton.elim y0 0
    have e : ∀ p q t, k0_pay243 (F := Ideal) p q t (ix2 0 y1) = k0_pay240 (F := Ideal) p q t (ix2 ⟨128 + y1.val, by omega⟩ 0) := by
      intro p q t; pointwise [k0_pay243]
    refine (e _ _ _).trans ((head_scl x1 x2 arg1 harg1 arg2 harg2 c _).trans ?_)
    unfold xsV
    congr 1
    apply Fin.ext
    show 128 + y1.val = 128 * (1 + 1 * 0) + (0 + 1 * y1.val)
    omega
  · change S1x128.Idx at y
    idx_vars y
    obtain rfl := Subsingleton.elim y0 0
    have e : ∀ p q t, k0_pay242 (F := Ideal) p q t (ix2 0 y1) = k0_pay240 (F := Ideal) p q t (ix2 ⟨y1.val, by omega⟩ 0) := by
      intro p q t; pointwise [k0_pay242]
    refine (e _ _ _).trans ((head_scl x1 x2 arg1 harg1 arg2 harg2 c _).trans ?_)
    unfold xsV
    congr 1
    apply Fin.ext
    show y1.val = 128 * (0 + 1 * 0) + (0 + 1 * y1.val)
    omega

/-- The first point stores the scales of `x` down a column. -/
theorem head_L13 : ∀ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.2.1, ∀ y : p.1.shape.Idx, p.2 y = xcV x1 x2 (p.1.emb y) := by
  refine all_cons _ _ _ _ (fun y => ?_) (all_nil _)
  change S256x128.Idx at y
  idx_vars y
  have e : ∀ p q t, k0_pay241 (F := Ideal) p q t (ix2 y0 y1) = k0_pay240 (F := Ideal) p q t (ix2 y0 0) := by
    intro p q t; pointwise [k0_pay241]
  refine (e _ _ _).trans ((head_scl x1 x2 arg1 harg1 arg2 harg2 c _).trans ?_)
  unfold xcV
  congr 1
  apply Fin.ext
  show y0.val = 0 + 1 * y0.val
  omega

/-- The first point stores zeros for the running maxima. -/
theorem head_L18 : ∀ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.2.2.2.1, ∀ y : p.1.shape.Idx, p.2 y = zeroV (p.1.emb y) := by
  refine all_cons _ _ _ _ (fun y => ?_) (all_nil _)
  change S256x128.Idx at y
  idx_vars y
  have e : k0_pay383 (F := Ideal) (ix2 y0 y1) = 0 := by pointwise [k0_pay383]
  exact e

/-- The first point's stores cover buffer 7. -/
theorem head_c7 : ∀ y : S1x7168.Idx, ∃ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).1, y ∈ p.1.set := View.cover_of_tiledL _ S1x128.size (by sl_kernel_rfl)
/-- The first point's stores cover buffer 10. -/
theorem head_c10 : ∀ y : S256x7168.Idx, ∃ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.1, y ∈ p.1.set := View.cover_of_tiledL _ S256x128.size (by sl_kernel_rfl)
/-- The first point's stores cover buffer 11. -/
theorem head_c11 : ∀ y : S2x128.Idx, ∃ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.1, y ∈ p.1.set := View.cover_of_tiledL _ S1x128.size (by sl_kernel_rfl)
/-- The first point's stores cover buffer 12. -/
theorem head_c12 : ∀ y : S256x7168.Idx, ∃ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.1, y ∈ p.1.set := View.cover_of_tiledL _ S256x128.size (by sl_kernel_rfl)
/-- The first point's stores cover buffer 13. -/
theorem head_c13 : ∀ y : S256x128.Idx, ∃ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.2.1, y ∈ p.1.set := View.cover_of_tiledL _ S256x128.size (by sl_kernel_rfl)
/-- The first point's stores cover buffer 14. -/
theorem head_c14 : ∀ y : S7168x128.Idx, ∃ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.2.2.1, y ∈ p.1.set := View.cover_of_tiledL _ S128x128.size (by sl_kernel_rfl)
/-- The first point's stores cover buffer 18. -/
theorem head_c18 : ∀ y : S256x128.Idx, ∃ p ∈ (headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.2.2.2.1, y ∈ p.1.set := View.cover_of_tiledL _ S256x128.size (by sl_kernel_rfl)

end Runs

end Cert.KernelIdeal.Hand

end
-- ==== Proof.RunMid.lean ====
module

public import proofs.«01_k».proof.Proof.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The part of the body that holds its first conditional is that conditional and then what follows it. -/
theorem part96_eq (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) :
    k0_part96_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      (headProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun _ => do
  let arg0 : BitVec 32 := BitVec.ofNat 32 (i 0).val
  let v4 : Vec F S256x128 .f32 ← Prog.lift (.load arg14 (Rect.unit (s := S7168x128) ![0, 0] S256x128.size inb_S7168x128_S256x128_0_0).toLoadRect (View.loadsAt_vmem h_S256x128))
  let v5 : Vec F S256x256 .bf16 ← Prog.lift (.load arg3 (Rect.unit (s := S7168x256) ![0, 0] S256x256.size inb_S7168x256_S256x256_0_0).toLoadRect (View.loadsAt_vmem h_S256x256))
  let v9 : Vec F S256x256 .f32 ← Prog.lift (.load arg15 (Rect.unit (s := S7168x256) ![0, 0] S256x256.size inb_S7168x256_S256x256_0_0).toLoadRect (View.loadsAt_vmem h_S256x256))
  Prog.lift (.store arg15 (Rect.unit (s := S7168x256) ![0, 0] S256x256.size inb_S7168x256_S256x256_0_0) (k0_pay467 v4 v5) Finset.univ (View.stores_vmem_bits_univ h_S256x256 rfl) (.inl rfl))
  pure ⟨arg0, k0_pay466 v4 v5, k0_pay468 v4 v5⟩) := by
  unfold k0_part96_skel headProg
  split
  · simp only [bind_assoc, pure_bind]
  · simp only [pure_bind]

/-- The body is its part before the second conditional and then that conditional. -/
theorem body_eq (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) :
    cc0_smoothquant_linear_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
  let ⟨arg0, v2923, v2926, v3195, cst_303, v3196⟩ : Σ' (arg0 : BitVec 32) (v2923 : FVec F S1x256 .f32) (v2926 : FVec F S1x256 .f32) (v3195 : FVec F S256x256 .f32) (cst_303 : F .f32), FVec F S256x256 .f32 ← k0_part160 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let v3231 : FVec F S256x256 .bf16 ← k0_part156 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v2926 v3195 cst_303 v3196
  let ⟨v3265, cst_343, v3266⟩ : Σ' (v3265 : FVec F S256x256 .f32) (cst_343 : F .f32), FVec F S256x256 .f32 ← k0_part157 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v2926 v3231
  let v3301 : FVec F S256x256 .bf16 ← k0_part158 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v2926 v3265 cst_343 v3266
  let ⟨v3321, v3322, v3323, v3332⟩ : Σ' (v3321 : FVec F S256x256 .f32) (v3322 : Vec F S256x128 .f32) (v3323 : Vec F S256x128 .f32), FVec F S256x128 .f32 ← k0_part159 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v2923 v2926 v3301
  let v3344 : Vec F S1x128 .f32 ← Prog.lift (.load arg4 (Rect.unit (s := S1x256) ![0, 128] S1x128.size inb_S1x256_S1x128_0_128).toLoadRect (View.loadsAt_vmem h_S1x128))
  let v3349 : Vec F S1x256x128 .f32 ← Prog.lift (.load arg17 (Rect.unit (s := S72x256x256) (k0_off2 i) S1x256x128.size (k0_off2_inb i)).toLoadRect (View.loadsAt_vmem h_S1x256x128))
  Prog.lift (.store arg17 (Rect.unit (s := S72x256x256) (k0_off2 i) S1x256x128.size (k0_off2_inb i)) (k0_pay2 v2923 v3321 v3322 v3344) Finset.univ (View.stores_vmem_bits_univ h_S1x256x128 rfl) (.inl rfl))
  let v3354 : Vec F S256x128 .f32 ← Prog.lift (.load arg18 (Rect.unit (s := S256x128) ![0, 0] S256x128.size inb_S256x128_S256x128_0_0).toLoadRect (View.loadsAt_vmem h_S256x128))
  Prog.lift (.store arg18 (Rect.unit (s := S256x128) ![0, 0] S256x128.size inb_S256x128_S256x128_0_0) (k0_pay3 v2923 v3321 v3322 v3323 v3332 v3344) Finset.univ (View.stores_vmem_bits_univ h_S256x128 rfl) (.inl rfl))
  tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  unfold cc0_smoothquant_linear_skel tailProg
  rfl

set_option maxHeartbeats 6000000 in
/-- What the part of the body that runs at every point leaves in the buffers it writes, as pieces (last first): the
    witness the run finds. The first conditional part is a hypothesis (from `R₀` it makes `R₁` and the scratch contents),
    the second is left to run. -/
noncomputable def midRun (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole)
    (x3 : Vec F S7168x256 .bf16) (x4 : Vec F S1x256 .f32) (x12 : Vec F S256x7168 .bf16) (x13 : Vec F S256x128 .f32) (x14 : Vec F S7168x128 .f32) (x17 : Vec F S72x256x256 .f32) (x18 : Vec F S256x128 .f32) :
    Σ' (L8 : List (View.Piece (Elt F) S7168x256 .i8)), Σ' (L9 : List (View.Piece (Elt F) S1x256 .f32)), Σ' (L15 : List (View.Piece (Elt F) S7168x256 .f32)), Σ' (L16 : List (View.Piece (Elt F) S7168x256 .bf16)), Σ' (L17 : List (View.Piece (Elt F) S72x256x256 .f32)), { L18 : List (View.Piece (Elt F) S256x128 .f32) //
      ∀ (E : Set ℕ) (K : PUnit → sProp 𝕄) (R₀ R₁ : sProp 𝕄)
        (_hhead : ∀ K' : PUnit → sProp 𝕄, iprop(R₀ ∗ (iprop(R₁ ∗ owns (c : Thread nD τ) arg12 fullShare x12 ∗ owns (c : Thread nD τ) arg13 fullShare x13 ∗ owns (c : Thread nD τ) arg14 fullShare x14 ∗ owns (c : Thread nD τ) arg18 fullShare x18) -∗ K' ⟨⟩)) ⊢ wp frame (wpE (defs₀ (F := F)) Variants.none c none) E (headProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K'),
        iprop(R₀ ∗ owns (c : Thread nD τ) arg3 fullShare x3 ∗ owns (c : Thread nD τ) arg4 fullShare x4 ∗ (∃ d, owns (c : Thread nD τ) arg8 fullShare d) ∗ (∃ d, owns (c : Thread nD τ) arg9 fullShare d) ∗ (∃ d, owns (c : Thread nD τ) arg15 fullShare d) ∗ (∃ d, owns (c : Thread nD τ) arg16 fullShare d) ∗ owns (c : Thread nD τ) arg17 fullShare x17
            ∗ (iprop(owns (c : Thread nD τ) arg3 fullShare x3 ∗ owns (c : Thread nD τ) arg4 fullShare x4 ∗ owns (c : Thread nD τ) arg12 fullShare x12 ∗ owns (c : Thread nD τ) arg13 fullShare x13 ∗ owns (c : Thread nD τ) arg14 fullShare x14 ∗ R₁ ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (arg17.view.loc (c : Thread nD τ) ↦[arg17.view.set]{fullShare} arg17.view.writes (Elt F) (harg17.unread x17) L17) ∗ (∃ f, arg18.view.loc (c : Thread nD τ) ↦[arg18.view.set]{fullShare} arg18.view.writes (Elt F) f L18)) -∗ wp frame (wpE (defs₀ (F := F)) Variants.none c none) E (tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K))
          ⊢ wp frame (wpE (defs₀ (F := F)) Variants.none c none) E (cc0_smoothquant_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K R₀ R₁ hhead => ?run⟩
  case run =>
    simp only [cc0_smoothquant_linear_eq_skeleton, body_eq]
    simp only [k0_part160_eq_skeleton]; unfold k0_part160_skel
    simp only [k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, part96_eq]
    unfold owns
    iintro ⟨HR0, ⟨%f3, %hf3, H3⟩, ⟨%f4, %hf4, H4⟩, ⟨%d8, %f8, -, H8⟩, ⟨%d9, %f9, -, H9⟩, ⟨%d15, %f15, -, H15⟩, ⟨%d16, %f16, -, H16⟩, ⟨%f17, %hf17, H17⟩, Hk⟩
    obtain rfl := harg3.eq_unread hf3; obtain rfl := harg4.eq_unread hf4; obtain rfl := harg17.eq_unread hf17
    set_option sl_exec.stopBefore "headProg" in sl_exec
    rw [wp_bind]
    iapply (hhead _)
    isplitl [HR0]; · iexact HR0
    unfold owns
    iintro ⟨HR1, ⟨%f12, %hf12, H12⟩, ⟨%f13, %hf13, H13⟩, ⟨%f14, %hf14, H14⟩, ⟨%f18, %hf18, H18⟩⟩
    obtain rfl := harg12.eq_unread hf12; obtain rfl := harg13.eq_unread hf13; obtain rfl := harg14.eq_unread hf14; obtain rfl := harg18.eq_unread hf18
    set_option sl_exec.stopBefore "tailProg" in sl_exec
    iapply Hk
    isplitl [H3]
    · iexists _; isplitr; · ipureintro; exact harg3.read_unread _
      iexact H3
    isplitl [H4]
    · iexists _; isplitr; · ipureintro; exact harg4.read_unread _
      iexact H4
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [HR1]; · iexact HR1
    isplitl [H8]; · iexists _; iexact H8
    isplitl [H9]; · iexists _; iexact H9
    isplitl [H15]; · iexists _; iexact H15
    isplitl [H16]; · iexists _; iexact H16
    isplitl [H17]; · iexact H17
    iexists _; iexact H18

end Cert.KernelIdeal.Hand

end
-- ==== Proof.MidVal.lean ====
module

public import proofs.«01_k».proof.Proof.HeadVal
public import proofs.«01_k».proof.Proof.RunMid
public import Idealize.ShloMosaic.Lib.Pointwise
public import Idealize.ShloMosaic.PureOps.Ideal
public import Idealize.ShloMosaic.Lib.Pipeline.Value
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

section Generic
variable {F : FTy → Type} [FloatOps F] [Named F]

/-- One step of the column maxima of a block of `w`: eight more rows, rows `t` to `t + 7` of a chunk of 256. -/
def wStep (V : FVec F S8x256 .f32) (t : ℕ) (h : S256x256.Slices ![t, 0] S8x256) (ch : FVec F S256x256 .f32) : FVec F S8x256 .f32 :=
  maximumf V (absf (extractStridedSlice S8x256 ![t, 0] ch h))

/-- The column maxima out of eight rows of partial maxima. -/
def wAmax (V : FVec F S8x256 .f32) : FVec F S1x256 .f32 :=
  shapeCast S1x256 (multiReduction .maximumf [0] S256 V 0xFF800000#32 reduces_S8x256_S256 (.inl rfl) rfl) shapeCasts_S256_S1x256

/-- The codes of 256 rows of a block of `w`. -/
def wqP (u : FVec F S1x256 .f32) (v : Vec F S256x256 .f32) : IVec S256x256 8 :=
  fptosi 8 (roundeven (minimumf (broadcast S256x256 (Scalar.ofBits (F := F) .f32 0x42FE0000#32)) (maximumf (broadcast S256x256 (Scalar.ofBits (F := F) .f32 0xC2FE0000#32)) (mulf v (broadcastTo S256x256 u broadcasts_S1x256_S256x256)))))

/-- The codes of 256 rows of a block of `w`, as numbers. -/
def wbP (u : FVec F S1x256 .f32) (v : Vec F S256x256 .f32) : FVec F S256x256 .bf16 :=
  shapeCast S256x256 (sitofp .bf16 (wqP u v)) shapeCasts_S256x256_S256x256

end Generic

section Pieces
variable (x3 : Vec Ideal S7168x256 .bf16) (s : Fin 7168 → EReal)
  (arg3 : Memref sig .tc .vmem S7168x256 .bf16) (harg3 : arg3.IsWhole) (arg14 : Memref sig .tc .vmem S7168x128 .f32) (harg14 : arg14.IsWhole)
  (arg15 : Memref sig .tc .vmem S7168x256 .f32) (arg16 : Memref sig .tc .vmem S7168x256 .bf16)

/-- Factors `s`, one per row, each repeated along its row. -/
def rowsV (s : Fin 7168 → EReal) : Vec Ideal S7168x128 .f32 := fun j => s (j 0)

/-- A chunk of `w` times the factors. -/
theorem w_chunk (o : ℕ) (h1) (h2) (h : o + 256 ≤ 7168) (p q : Fin 256) :
    k0_pay470 (F := Ideal) (arg14.view.readAt (Elt Ideal) (Rect.unit (s := S7168x128) ![o, 0] S256x128.size h1).toLoadRect (harg14.unread (rowsV s)))
      (arg3.view.readAt (Elt Ideal) (Rect.unit (s := S7168x256) ![o, 0] S256x256.size h2).toLoadRect (harg3.unread x3)) (ix2 p q)
    = wml x3 s ⟨o + p, by omega⟩ q := by
  rw [readAt_unread, readAt_unread]
  pointwise [k0_pay470]
  unfold wml rowsV
  split <;> rfl

/-- A block of `w` times the smoothing factors. -/
def wmV : Vec Ideal S7168x256 .f32 := fun j => wml x3 s (j 0) (j 1)

/-- The products a chunk stores are part of `wmV`. -/
theorem w_pieceC (o : ℕ) (h1) (h2) (h3) (y : S256x256.Idx) :
    shapeCast S256x256 (k0_pay470 (F := Ideal) (arg14.view.readAt (Elt Ideal) (Rect.unit (s := S7168x128) ![o, 0] S256x128.size h1).toLoadRect (harg14.unread (rowsV s)))
      (arg3.view.readAt (Elt Ideal) (Rect.unit (s := S7168x256) ![o, 0] S256x256.size h2).toLoadRect (harg3.unread x3))) shapeCasts_S256x256_S256x256 y
    = wmV x3 s ((Rect.unit (s := S7168x256) ![o, 0] S256x256.size h3).emb y) := by
  have hb : o + 256 ≤ 7168 := h3 0
  idx_vars y
  pointwise []
  rw [w_chunk _ _ _ _ _ _ _ _ _ hb]
  unfold wmV
  congr 1
  · apply Fin.ext; show o + y0.val = o + 1 * y0.val; omega
  · apply Fin.ext; show y1.val = 0 + 1 * y1.val; omega

/-- `V` holds, per column and row modulo eight, the maximum of zero and the absolute values met in the rows below `n`. -/
def AccW (n : ℕ) (V : FVec Ideal S8x256 .f32) : Prop :=
  ∀ (a : Fin 8) (q : Fin 256) (b : EReal),
    V (ix2 a q) ≤ b ↔ 0 ≤ b ∧ ∀ k : Fin 7168, k.val < n → k.val % 8 = a.val → abE (wml x3 s k q) ≤ b

/-- Before the first rows the running maxima are zero. -/
theorem accW_zero : AccW x3 s 0 (broadcast S8x256 (Scalar.ofBits (F := Ideal) .f32 0x00000000#32)) := by
  intro r l b
  pointwise []
  simp

/-- What eight rows do to a running maximum. -/
theorem wStep_apply (V : FVec Ideal S8x256 .f32) (t : ℕ) (h) (ht : t + 8 ≤ 256) (ch : FVec Ideal S256x256 .f32) (a : Fin 8) (q : Fin 256) :
    wStep (F := Ideal) V t h ch (ix2 a q) = max (V (ix2 a q)) (abE (ch (ix2 ⟨t + a, by omega⟩ q))) := by
  pointwise [wStep]
  rfl

/-- Eight rows extend the running maxima. -/
theorem accW_step (n k o t : ℕ) (V : FVec Ideal S8x256 .f32) (h1) (h2) (h4) (hn : n = k + 8) (h : AccW x3 s k V) (hk : k = o + t ∧ k % 8 = 0 ∧ t + 8 ≤ 256) :
    AccW x3 s n (wStep (F := Ideal) V t h4 (k0_pay470 (F := Ideal)
      (arg14.view.readAt (Elt Ideal) (Rect.unit (s := S7168x128) ![o, 0] S256x128.size h1).toLoadRect (harg14.unread (rowsV s)))
      (arg3.view.readAt (Elt Ideal) (Rect.unit (s := S7168x256) ![o, 0] S256x256.size h2).toLoadRect (harg3.unread x3)))) := by
  have hb : o + 256 ≤ 7168 := h2 0
  obtain ⟨hk1, hk2, hk3⟩ := hk
  intro a q b
  rw [wStep_apply _ _ _ hk3, w_chunk _ _ _ _ _ _ _ _ _ hb, max_le_iff, h a q b, and_assoc]
  refine and_congr_right fun _ => ?_
  constructor
  · rintro ⟨hA, hB⟩ c hc hl
    by_cases hlt : c.val < k
    · exact hA c hlt hl
    · have : c = ⟨o + (⟨t + a.val, by omega⟩ : Fin 256).val, by show o + (t + a.val) < 7168; omega⟩ := Fin.ext (by show c.val = o + (t + a.val); omega)
      rw [this]; exact hB
  · intro hA
    refine ⟨fun c hc hl => hA c (by omega) hl, hA _ (by show o + (t + a.val) < n; omega) (by show (o + (t + a.val)) % 8 = a.val; omega)⟩

section Mid
variable (c : Dev nD) (i : grid0.Coords)

/-- The running maxima after all rows. -/
theorem mid_acc : ∃ V, AccW x3 s 7168 V ∧ midRun.sl.r_80 (F := Ideal) c i arg3 harg3 arg14 harg14 x3 (rowsV s) = wAmax (F := Ideal) V := by
  refine ⟨_, ?_, rfl⟩
  iterate 28 iterate 32 refine accW_step x3 s arg3 harg3 arg14 harg14 _ _ _ _ _ _ _ _ rfl ?_ (by decide)
  exact accW_zero _ _

/-- The largest of a column's eight running maxima. -/
theorem wAmax_apply (V : FVec Ideal S8x256 .f32) (q : Fin 256) :
    wAmax (F := Ideal) V (ix2 0 q) = Finset.univ.fold max (Ideal.ofBits .f32 0xFF800000#32) (fun a : Fin 8 => V (ix2 a q)) := by
  pointwise [wAmax]

/-- The largest absolute value of a column. -/
theorem mid_amax (q : Fin 256) : midRun.sl.r_80 (F := Ideal) c i arg3 harg3 arg14 harg14 x3 (rowsV s) (ix2 0 q) = amx fun k : Fin 7168 => wml x3 s k q := by
  obtain ⟨V, h, e⟩ := mid_acc x3 s arg3 harg3 arg14 harg14 c i
  rw [e, wAmax_apply]
  refine eq_of_forall_ge_iff fun b => ?_
  rw [fold_max_le, amx_le]
  constructor
  · intro hA k
    exact ((h ⟨k.val % 8, Nat.mod_lt _ (by omega)⟩ q b).1 (hA _)).2 k k.isLt rfl
  · intro hA a
    exact (h a q b).2 ⟨(abE_nonneg _).trans (hA ⟨0, by omega⟩), fun k _ _ => hA k⟩

/-- The scale of a column of `w`. -/
theorem mid_scl (q : Fin 256) : k0_pay574 (F := Ideal) (midRun.sl.r_80 c i arg3 harg3 arg14 harg14 x3 (rowsV s)) (ix2 0 q) = wscl x3 s q := by
  pointwise [k0_pay574]
  rw [mid_amax]
  rfl

/-- The reciprocal of a column's scale. -/
theorem mid_inv (q : Fin 256) : k0_pay575 (F := Ideal) (midRun.sl.r_80 c i arg3 harg3 arg14 harg14 x3 (rowsV s)) (ix2 0 q) = Ideal.div 1 (wscl x3 s q) := by
  rw [← mid_scl x3 s arg3 harg3 arg14 harg14 c i]
  pointwise [k0_pay575]

/-- All stores of the products are parts of `wmV`. -/
theorem mid_W15 : ∀ p ∈ midRun.sl.H15_28 (F := Ideal) c arg3 harg3 arg14 harg14 x3 (rowsV s), ∀ y : p.1.shape.Idx, p.2 y = wmV x3 s (p.1.emb y) := by
  iterate 28 refine all_cons _ _ _ _ (fun y => w_pieceC x3 s arg3 harg3 arg14 harg14 _ _ _ _ y) ?_
  exact all_nil _

/-- The stores of the products cover their buffer. -/
theorem mid_cov15 : ∀ y : S7168x256.Idx, ∃ p ∈ midRun.sl.H15_28 (F := Ideal) c arg3 harg3 arg14 harg14 x3 (rowsV s), y ∈ p.1.set :=
  View.cover_of_tiledL _ S256x256.size (by sl_kernel_rfl)

/-- The codes of a block of `w`. -/
def wqV : Vec Ideal S7168x256 .i8 := fun j => wcode x3 s (j 0) (j 1)
/-- The codes of a block of `w`, as numbers. -/
def wbV : Vec Ideal S7168x256 .bf16 := fun j => num (wcode x3 s (j 0) (j 1))
/-- The scales of the columns of a block of `w`. -/
def wsV : Vec Ideal S1x256 .f32 := fun j => wscl x3 s (j 1)

/-- An entry of a chunk's codes. -/
theorem wqP_apply (u : FVec Ideal S1x256 .f32) (v : Vec Ideal S256x256 .f32) (p q : Fin 256) :
    wqP (F := Ideal) u v (ix2 p q) = code (v (ix2 p q)) (u (ix2 0 q)) := by
  pointwise [wqP]
  rfl

/-- The codes a chunk stores are part of `wqV`. -/
theorem wq_piece (o : ℕ) (h1) (h3) (y : S256x256.Idx) :
    wqP (F := Ideal) (k0_pay575 (F := Ideal) (midRun.sl.r_80 c i arg3 harg3 arg14 harg14 x3 (rowsV s)))
      (arg15.view.readCov (midRun.sl.H15_28 (F := Ideal) c arg3 harg3 arg14 harg14 x3 (rowsV s)) (Rect.unit (s := S7168x256) ![o, 0] S256x256.size h1).toLoadRect) y
    = wqV x3 s ((Rect.unit (s := S7168x256) ![o, 0] S256x256.size h3).emb y) := by
  have hb : o + 256 ≤ 7168 := h3 0
  idx_vars y
  rw [wqP_apply, mid_inv, readCov_piece _ _ _ (mid_W15 x3 s arg3 harg3 arg14 harg14 c) (mid_cov15 x3 s arg3 harg3 arg14 harg14 c)]
  show code (wml x3 s ((Rect.unit (s := S7168x256) ![o, 0] S256x256.size h1).emb (ix2 y0 y1) 0) ((Rect.unit (s := S7168x256) ![o, 0] S256x256.size h1).emb (ix2 y0 y1) 1)) _
    = code (wml x3 s ((Rect.unit (s := S7168x256) ![o, 0] S256x256.size h3).emb (ix2 y0 y1) 0) ((Rect.unit (s := S7168x256) ![o, 0] S256x256.size h3).emb (ix2 y0 y1) 1))
      (Ideal.div 1 (wscl x3 s ((Rect.unit (s := S7168x256) ![o, 0] S256x256.size h3).emb (ix2 y0 y1) 1)))
  congr 3
  congr 1
  apply Fin.ext
  show y1.val = 0 + 1 * y1.val
  omega

/-- The codes a chunk stores as numbers are part of `wbV`. -/
theorem wb_piece (o : ℕ) (h1) (h3) (y : S256x256.Idx) :
    wbP (F := Ideal) (k0_pay575 (F := Ideal) (midRun.sl.r_80 c i arg3 harg3 arg14 harg14 x3 (rowsV s)))
      (arg15.view.readCov (midRun.sl.H15_28 (F := Ideal) c arg3 harg3 arg14 harg14 x3 (rowsV s)) (Rect.unit (s := S7168x256) ![o, 0] S256x256.size h1).toLoadRect) y
    = wbV x3 s ((Rect.unit (s := S7168x256) ![o, 0] S256x256.size h3).emb y) := by
  have e := wq_piece x3 s arg3 harg3 arg14 harg14 arg15 c i o h1 h3 y
  have e2 : ∀ (u : FVec Ideal S1x256 .f32) v, wbP (F := Ideal) u v y = num (wqP (F := Ideal) u v y) := by
    intro u v
    idx_vars y
    unfold wbP
    pointwise []
    rfl
  rw [e2, e]
  rfl

/-- All stores of the codes as numbers are parts of `wbV`. -/
theorem mid_W16 : ∀ p ∈ midRun.sl.H16_28 (F := Ideal) c i arg3 harg3 arg14 harg14 arg15 x3 (rowsV s), ∀ y : p.1.shape.Idx, p.2 y = wbV x3 s (p.1.emb y) := by
  iterate 28 refine all_cons _ _ _ _ (fun y => wb_piece x3 s arg3 harg3 arg14 harg14 arg15 c i _ _ _ y) ?_
  exact all_nil _

/-- The stores of the codes as numbers cover their buffer. -/
theorem mid_cov16 : ∀ y : S7168x256.Idx, ∃ p ∈ midRun.sl.H16_28 (F := Ideal) c i arg3 harg3 arg14 harg14 arg15 x3 (rowsV s), y ∈ p.1.set :=
  View.cover_of_tiledL _ S256x256.size (by sl_kernel_rfl)

/-- The codes as numbers, read back whole. -/
theorem mid_v3320 : midRun.sl.v3320 (F := Ideal) c i arg3 harg3 arg14 harg14 arg15 arg16 x3 (rowsV s) = wbV x3 s := by
  unfold midRun.sl.v3320
  rw [readCov_piece _ _ _ (mid_W16 x3 s arg3 harg3 arg14 harg14 arg15 c i) (mid_cov16 x3 s arg3 harg3 arg14 harg14 arg15 c i)]
  exact View.ld_unit_zero (funext fun a => by fin_cases a <;> rfl) _ _

section Z
variable (xb : Fin 256 → Fin 7168 → EReal) (xs : Fin 256 → EReal) (x4 : Vec Ideal S1x256 .f32) (x18 : Vec Ideal S256x128 .f32)
  (arg4 : Memref sig .tc .vmem S1x256 .f32) (harg4 : arg4.IsWhole)
  (arg12 : Memref sig .tc .vmem S256x7168 .bf16) (harg12 : arg12.IsWhole) (arg13 : Memref sig .tc .vmem S256x128 .f32) (harg13 : arg13.IsWhole)
  (arg18 : Memref sig .tc .vmem S256x128 .f32) (harg18 : arg18.IsWhole)

/-- The codes of `x` as a block of numbers. -/
def xbA : Vec Ideal S256x7168 .bf16 := fun j => xb (j 0) (j 1)
/-- One number per row, repeated along the row. -/
def xsA : Vec Ideal S256x128 .f32 := fun j => xs (j 0)

/-- A load of a whole block reads the block. -/
theorem ld_whole {S : Shape} {e : EltTy} (X : S.Idx → Elt Ideal e) {off : Fin S.rank → Nat} (h : off = fun _ => 0) (inb) :
    View.ld X (Rect.unit off S.size inb) = X := View.ld_unit_zero h inb X

/-- The layer's output in the left half of a block. -/
theorem z_left (r : Fin 256) (l : Fin 128) (h4) (h12) (h13) :
    k0_pay649 (F := Ideal) (k0_pay574 (F := Ideal) (midRun.sl.r_80 c i arg3 harg3 arg14 harg14 x3 (rowsV s)))
      (arg12.view.readAt (Elt Ideal) (Rect.unit (s := S256x7168) ![0, 0] S256x7168.size h12).toLoadRect (harg12.unread (xbA xb)))
      (midRun.sl.v3320 (F := Ideal) c i arg3 harg3 arg14 harg14 arg15 arg16 x3 (rowsV s))
      (arg13.view.readAt (Elt Ideal) (Rect.unit (s := S256x128) ![0, 0] S256x128.size h13).toLoadRect (harg13.unread (xsA xs)))
      (arg4.view.readAt (Elt Ideal) (Rect.unit (s := S1x256) ![0, 0] S1x128.size h4).toLoadRect (harg4.unread x4)) (ix2 r l)
    = zval xb xs x3 s x4 r ⟨l.val, by omega⟩ := by
  rw [readAt_unread, readAt_unread, readAt_unread, mid_v3320]
  pointwise [k0_pay649, k0_pay648]
  rw [mid_scl]
  rfl

/-- The layer's output in the right half of a block. -/
theorem z_right (r : Fin 256) (l : Fin 128) (h4) (h12) (h13) :
    k0_pay1 (F := Ideal) (k0_pay574 (F := Ideal) (midRun.sl.r_80 c i arg3 harg3 arg14 harg14 x3 (rowsV s)))
      (k0_pay648 (F := Ideal) (arg12.view.readAt (Elt Ideal) (Rect.unit (s := S256x7168) ![0, 0] S256x7168.size h12).toLoadRect (harg12.unread (xbA xb)))
        (midRun.sl.v3320 (F := Ideal) c i arg3 harg3 arg14 harg14 arg15 arg16 x3 (rowsV s)))
      (arg13.view.readAt (Elt Ideal) (Rect.unit (s := S256x128) ![0, 0] S256x128.size h13).toLoadRect (harg13.unread (xsA xs)))
      (arg4.view.readAt (Elt Ideal) (Rect.unit (s := S1x256) ![0, 128] S1x128.size h4).toLoadRect (harg4.unread x4)) (ix2 r l)
    = zval xb xs x3 s x4 r ⟨128 + l.val, by omega⟩ := by
  rw [readAt_unread, readAt_unread, readAt_unread, mid_v3320]
  pointwise [k0_pay1, k0_pay648]
  rw [mid_scl]
  rfl

end Z
end Mid
end Pieces

end Cert.KernelIdeal.Hand

end
-- ==== Proof.MidOut.lean ====
module

public import proofs.«01_k».proof.Proof.MidVal
public import Idealize.ShloMosaic.Lib.Pointwise
public import Idealize.ShloMosaic.PureOps.Ideal
public import Idealize.ShloMosaic.Lib.Pipeline.Value
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- What the row block `n` of the product holds: everywhere the value of the layer's output at the row and lane. -/
def zG (xb : Fin 256 → Fin 7168 → EReal) (xs : Fin 256 → EReal) (x3 : Vec Ideal S7168x256 .bf16) (s : Fin 7168 → EReal) (x4 : Vec Ideal S1x256 .f32) :
    Vec Ideal S72x256x256 .f32 := fun j => zval xb xs x3 s x4 (j 1) (j 2)

/-- The running maxima after one more block: lane `l` takes in the block's lanes `l` and `128 + l`. -/
def zmxV (zm : Fin 256 → Fin 128 → EReal) (xb : Fin 256 → Fin 7168 → EReal) (xs : Fin 256 → EReal) (x3 : Vec Ideal S7168x256 .bf16) (s : Fin 7168 → EReal) (x4 : Vec Ideal S1x256 .f32) :
    Fin 256 → Fin 128 → EReal := fun r l =>
  max (max (zm r l) (abE (zval xb xs x3 s x4 r ⟨l.val, by omega⟩))) (abE (zval xb xs x3 s x4 r ⟨128 + l.val, by omega⟩))

/-- A function of row and lane as a block. -/
def zmA (zm : Fin 256 → Fin 128 → EReal) : Vec Ideal S256x128 .f32 := fun j => zm (j 0) (j 1)

/-- Where the left half of a slab is stored. -/
theorem off1_eq (i : grid0.Coords) : k0_off1 i = ![(i 0).val, 0, 0] := by
  have h : (i 0).val < 72 := (i 0).isLt
  have e : (BitVec.ofNat 32 (i 0).val).toNat = (i 0).val := by
    rw [BitVec.toNat_ofNat]; exact Nat.mod_eq_of_lt (by omega)
  show ![(BitVec.ofNat 32 (i 0).val).toNat, 0, 0] = _
  rw [e]

/-- Where the right half of a slab is stored. -/
theorem off2_eq (i : grid0.Coords) : k0_off2 i = ![(i 0).val, 0, 128] := by
  have h : (i 0).val < 72 := (i 0).isLt
  have e : (BitVec.ofNat 32 (i 0).val).toNat = (i 0).val := by
    rw [BitVec.toNat_ofNat]; exact Nat.mod_eq_of_lt (by omega)
  show ![(BitVec.ofNat 32 (i 0).val).toNat, 0, 128] = _
  rw [e]

section Slab
variable (xb : Fin 256 → Fin 7168 → EReal) (xs : Fin 256 → EReal) (x3 : Vec Ideal S7168x256 .bf16) (s : Fin 7168 → EReal) (x4 : Vec Ideal S1x256 .f32)

/-- A half of a slab, 128 lanes from lane `o`, written at slab `n`. -/
theorem slab_piece (P : FVec Ideal S256x128 .f32) (o n : ℕ) (ho : o + 128 ≤ 256) (off : Fin 3 → ℕ) (e : off = ![n, 0, o])
    (hP : ∀ (r : Fin 256) (l : Fin 128), P (ix2 r l) = zval xb xs x3 s x4 r ⟨o + l.val, by omega⟩) (h) (y : S1x256x128.Idx) :
    shapeCast S1x256x128 P shapeCasts_S256x128_S1x256x128 y = zG xb xs x3 s x4 ((Rect.unit (s := S72x256x256) off S1x256x128.size h).emb y) := by
  subst e
  idx_vars y
  pointwise []
  rw [hP]
  show _ = zval xb xs x3 s x4 ((Rect.unit (s := S72x256x256) ![n, 0, o] S1x256x128.size h).emb (ix3 y0 y1 y2) 1) ((Rect.unit (s := S72x256x256) ![n, 0, o] S1x256x128.size h).emb (ix3 y0 y1 y2) 2)
  congr 1
  · apply Fin.ext; show y1.val = 0 + 1 * y1.val; omega
  · apply Fin.ext; show o + y2.val = o + 1 * y2.val; omega

/-- Which places a stored half slab holds. -/
theorem slab_mem (o n : ℕ) (off : Fin 3 → ℕ) (e : off = ![n, 0, o]) (h) (j : S72x256x256.Idx) :
    j ∈ (Rect.unit (s := S72x256x256) off S1x256x128.size h).set ↔ (j 0).val = n ∧ o ≤ (j 2).val ∧ (j 2).val < o + 128 := by
  subst e
  have h1 : (j 1).val < 256 := (j 1).isLt
  rw [Rect.mem_set_unit]
  constructor
  · intro H
    have a0 := H 0
    have a2 := H 2
    change n ≤ (j 0).val ∧ (j 0).val < n + 1 at a0
    change o ≤ (j 2).val ∧ (j 2).val < o + 128 at a2
    exact ⟨by omega, a2⟩
  · rintro ⟨a0, a2⟩ a
    fin_cases a
    · show n ≤ (j 0).val ∧ (j 0).val < n + 1
      omega
    · show 0 ≤ (j 1).val ∧ (j 1).val < 0 + 256
      omega
    · exact a2

end Slab

section Runs
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole)
    (xb : Fin 256 → Fin 7168 → EReal) (xs : Fin 256 → EReal) (x3 : Vec Ideal S7168x256 .bf16) (s : Fin 7168 → EReal) (x4 : Vec Ideal S1x256 .f32)
    (x17 : Vec Ideal S72x256x256 .f32) (zm : Fin 256 → Fin 128 → EReal)

/-- A point stores the codes of its block of `w`. -/
theorem mid_L8 : ∀ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).1, ∀ y : p.1.shape.Idx, p.2 y = wqV x3 s (p.1.emb y) := by
  iterate 28 refine all_cons _ _ _ _ (fun y => wq_piece x3 s arg3 harg3 arg14 harg14 arg15 c i _ _ _ y) ?_
  exact all_nil _

/-- A point stores the scales of its block of `w`. -/
theorem mid_L9 : ∀ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.1, ∀ y : p.1.shape.Idx, p.2 y = wsV x3 s (p.1.emb y) := by
  refine all_cons _ _ _ _ (fun y => ?_) (all_nil _)
  change S1x256.Idx at y
  idx_vars y
  obtain rfl := Subsingleton.elim y0 0
  refine (mid_scl x3 s arg3 harg3 arg14 harg14 c i y1).trans ?_
  show wscl x3 s y1 = wscl x3 s _
  congr 1
  apply Fin.ext
  show y1.val = 0 + 1 * y1.val
  omega

/-- A point stores its slab of the layer's output. -/
theorem mid_L17 : ∀ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.2.2.2.1, ∀ y : p.1.shape.Idx, p.2 y = zG xb xs x3 s x4 (p.1.emb y) := by
  refine all_cons _ _ _ _ (fun y => ?_) (all_cons _ _ _ _ (fun y => ?_) (all_nil _))
  · exact slab_piece xb xs x3 s x4 _ 128 (i 0).val (by omega) (k0_off2 i) (off2_eq i) (fun r l => z_right x3 s arg3 harg3 arg14 harg14 arg15 arg16 c i xb xs x4 arg4 harg4 arg12 harg12 arg13 harg13 r l _ _ _) _ y
  · refine slab_piece xb xs x3 s x4 (k0_pay649 (F := Ideal) _ _ _ _ _) 0 (i 0).val (by omega) (k0_off1 i) (off1_eq i) (fun r l => ?_) _ y
    refine (z_left x3 s arg3 harg3 arg14 harg14 arg15 arg16 c i xb xs x4 arg4 harg4 arg12 harg12 arg13 harg13 r l _ _ _).trans ?_
    congr 1
    apply Fin.ext
    show l.val = 0 + l.val
    omega

/-- A point stores all of its own slab. -/
theorem mid_mem17 (j : S72x256x256.Idx) (hj : (j 0).val = (i 0).val) : ∃ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.2.2.2.1, j ∈ p.1.set := by
  have h2 : (j 2).val < 256 := (j 2).isLt
  by_cases hl : (j 2).val < 128
  · refine ⟨_, List.mem_cons_of_mem _ (List.mem_cons_self ..), ?_⟩
    exact (slab_mem 0 (i 0).val (k0_off1 i) (off1_eq i) (k0_off1_inb i) j).2 ⟨hj, by omega, by omega⟩
  · refine ⟨_, List.mem_cons_self .., ?_⟩
    exact (slab_mem 128 (i 0).val (k0_off2 i) (off2_eq i) (k0_off2_inb i) j).2 ⟨hj, by omega, by omega⟩

/-- A point stores nothing of another slab. -/
theorem mid_nmem17 (j : S72x256x256.Idx) (hj : (j 0).val ≠ (i 0).val) : ∀ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.2.2.2.1, j ∉ p.1.set := by
  intro p hp
  rcases List.mem_cons.1 hp with rfl | hp
  · exact fun h => hj ((slab_mem 128 (i 0).val (k0_off2 i) (off2_eq i) (k0_off2_inb i) j).1 h).1
  rcases List.mem_cons.1 hp with rfl | hp
  · exact fun h => hj ((slab_mem 0 (i 0).val (k0_off1 i) (off1_eq i) (k0_off1_inb i) j).1 h).1
  · exact absurd hp (List.not_mem_nil)

/-- A point stores the running maxima extended by its slab. -/
theorem mid_L18 : ∀ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.2.2.2.2.1, ∀ y : p.1.shape.Idx, p.2 y = zmA (zmxV zm xb xs x3 s x4) (p.1.emb y) := by
  refine all_cons _ _ _ _ (fun y => ?_) (all_nil _)
  change S256x128.Idx at y
  idx_vars y
  have e (a b c' d e' : _) (f : _) : k0_pay3 (F := Ideal) a b c' d e' f (ix2 y0 y1) = max (max (d (ix2 y0 y1)) (abE (e' (ix2 y0 y1)))) (abE (k0_pay1 (F := Ideal) a b c' f (ix2 y0 y1))) := by
    pointwise [k0_pay3]
    rfl
  refine (e _ _ _ _ _ _).trans ?_
  have e1 := z_left x3 s arg3 harg3 arg14 harg14 arg15 arg16 c i xb xs x4 arg4 harg4 arg12 harg12 arg13 harg13 y0 y1 inb_S1x256_S1x128_0_0 inb_S256x7168_S256x7168_0_0 inb_S256x128_S256x128_0_0
  have e2 := z_right x3 s arg3 harg3 arg14 harg14 arg15 arg16 c i xb xs x4 arg4 harg4 arg12 harg12 arg13 harg13 y0 y1 inb_S1x256_S1x128_0_128 inb_S256x7168_S256x7168_0_0 inb_S256x128_S256x128_0_0
  have e3 : midRun.sl.r_96 (F := Ideal) c arg18 harg18 (zmA zm) (ix2 y0 y1) = zm y0 y1 := by
    unfold midRun.sl.r_96
    rw [readAt_unread]
    pointwise [zmA]
  refine (congrArg₂ max (congrArg₂ max e3 (congrArg abE e1)) (congrArg abE e2)).trans ?_
  show zmxV zm xb xs x3 s x4 y0 y1 = zmxV zm xb xs x3 s x4 _ _
  congr 1
  · apply Fin.ext; show y0.val = 0 + 1 * y0.val; omega
  · apply Fin.ext; show y1.val = 0 + 1 * y1.val; omega

/-- A point's stores cover buffer 8. -/
theorem mid_c8 : ∀ y : S7168x256.Idx, ∃ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).1, y ∈ p.1.set := View.cover_of_tiledL _ S256x256.size (by sl_kernel_rfl)
/-- A point's stores cover buffer 9. -/
theorem mid_c9 : ∀ y : S1x256.Idx, ∃ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.1, y ∈ p.1.set := View.cover_of_tiledL _ S1x256.size (by sl_kernel_rfl)
/-- A point's stores cover buffer 15. -/
theorem mid_c15 : ∀ y : S7168x256.Idx, ∃ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.2.1, y ∈ p.1.set := View.cover_of_tiledL _ S256x256.size (by sl_kernel_rfl)
/-- A point's stores cover buffer 16. -/
theorem mid_c16 : ∀ y : S7168x256.Idx, ∃ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.2.2.1, y ∈ p.1.set := View.cover_of_tiledL _ S256x256.size (by sl_kernel_rfl)
/-- A point's stores cover buffer 18. -/
theorem mid_c18 : ∀ y : S256x128.Idx, ∃ p ∈ (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.2.2.2.2.1, y ∈ p.1.set := View.cover_of_tiledL _ S256x128.size (by sl_kernel_rfl)

end Runs

end Cert.KernelIdeal.Hand

end
-- ==== Proof.RunTail.lean ====
module

public import proofs.«01_k».proof.Proof.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 6000000 in
/-- What the part of the body that runs at the last point only leaves in the two buffers it writes, as pieces (last first): the witness the run finds. -/
noncomputable def tailRun (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole) (hc : cond0_1 i)
    (x17 : Vec F S72x256x256 .f32) (x18 : Vec F S256x128 .f32) :
    Σ' (L5 : List (View.Piece (Elt F) S256x18432 .i8)), { L6 : List (View.Piece (Elt F) S2x128 .f32) //
      ∀ (E : Set ℕ) (K : PUnit → sProp 𝕄),
        iprop(owns (c : Thread nD τ) arg17 fullShare x17 ∗ owns (c : Thread nD τ) arg18 fullShare x18 ∗ (∃ d, owns (c : Thread nD τ) arg5 fullShare d) ∗ (∃ d, owns (c : Thread nD τ) arg6 fullShare d)
            ∗ (iprop(owns (c : Thread nD τ) arg17 fullShare x17 ∗ owns (c : Thread nD τ) arg18 fullShare x18 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6)) -∗ K ⟨⟩))
          ⊢ wp frame (wpE (defs₀ (F := F)) Variants.none c none) E (tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    unfold tailProg
    simp only [k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
    unfold owns
    iintro ⟨⟨%f17, %hf17, H17⟩, ⟨%f18, %hf18, H18⟩, ⟨%d5, %f5, -, H5⟩, ⟨%d6, %f6, -, H6⟩, Hk⟩
    obtain rfl := harg17.eq_unread hf17; obtain rfl := harg18.eq_unread hf18
    sl_exec (disch := sl_exact hc)
    sl_step
    iapply Hk
    isplitl [H17]
    · iexists _; isplitr; · ipureintro; exact harg17.read_unread _
      iexact H17
    isplitl [H18]
    · iexists _; isplitr; · ipureintro; exact harg18.read_unread _
      iexact H18
    isplitl [H5]; · iexists _; iexact H5
    iexists _; iexact H6

end Cert.KernelIdeal.Hand

end
-- ==== Proof.TailVal.lean ====
module

public import proofs.«01_k».proof.Proof.MidOut
public import proofs.«01_k».proof.Proof.RunTail
public import Idealize.ShloMosaic.Lib.Pointwise
public import Idealize.ShloMosaic.PureOps.Ideal
public import Idealize.ShloMosaic.Lib.Pipeline.Value
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- The scale of row `r`: of the largest of the row's 128 running maxima. -/
def zrs (zm : Fin 256 → Fin 128 → EReal) (r : Fin 256) : EReal := scl (Finset.univ.sup fun l => zm r l)

/-- The codes of the layer's output, block `n` of 256 columns read off slab `n`. -/
def zqV (zm : Fin 256 → Fin 128 → EReal) (z : Vec Ideal S72x256x256 .f32) : Vec Ideal S256x18432 .i8 := fun j =>
  code (z (ix3 (⟨(j 1).val / 256, by have h : (j 1).val < 18432 := (j 1).isLt; omega⟩ : Fin 72) (j 0) (⟨(j 1).val % 256, Nat.mod_lt _ (by omega)⟩ : Fin 256))) (Ideal.div 1 (zrs zm (j 0)))

/-- The scales of the output, row `128 * b + l` at entry `(b, l)`. -/
def zsV (zm : Fin 256 → Fin 128 → EReal) : Vec Ideal S2x128 .f32 := fun j =>
  zrs zm ⟨128 * (j 0).val + (j 1).val, by
    have h0 : (j 0).val < 2 := (j 0).isLt
    have h1 : (j 1).val < 128 := (j 1).isLt
    omega⟩

section Pieces
variable (zm : Fin 256 → Fin 128 → EReal) (z : Vec Ideal S72x256x256 .f32)
  (arg17 : Memref sig .tc .vmem S72x256x256 .f32) (harg17 : arg17.IsWhole) (arg18 : Memref sig .tc .vmem S256x128 .f32) (harg18 : arg18.IsWhole)

/-- The scale of a row of the result. -/
theorem pay384 (V : FVec Ideal S256x128 .f32) (r : Fin 256) : k0_pay384 (F := Ideal) V (ix2 r 0) = scl (Finset.univ.sup fun l : Fin 128 => V (ix2 r l)) := by
  have e : Finset.univ.fold max (Ideal.ofBits .f32 0xFF800000#32) (fun l : Fin 128 => V (ix2 r l)) = Finset.univ.sup fun l : Fin 128 => V (ix2 r l) :=
    eq_of_forall_ge_iff fun b => by rw [fold_max_le, Finset.sup_le_iff]; exact ⟨fun h a _ => h a, fun h a => h a (Finset.mem_univ a)⟩
  pointwise [k0_pay384]
  rw [e]
  rfl

/-- The reciprocal of a row's scale. -/
theorem tail_inv (h) (r q : Fin 256) :
    k0_pay387 (F := Ideal) (arg18.view.readAt (Elt Ideal) (Rect.unit (s := S256x128) ![0, 0] S256x128.size h).toLoadRect (harg18.unread (zmA zm))) (ix2 r q)
    = Ideal.div 1 (zrs zm r) := by
  rw [readAt_unread, View.ld_unit_zero (funext fun a => by fin_cases a <;> rfl)]
  have e := pay384 (zmA zm) r
  change _ = zrs zm r at e
  rw [← e]
  pointwise [k0_pay387]

/-- The codes stored for one slab are part of `zqV`. -/
theorem tail_piece (k : ℕ) (h) (h1) (h3) (y : S256x256.Idx) :
    k0_pay4 (F := Ideal) (k0_pay387 (F := Ideal) (arg18.view.readAt (Elt Ideal) (Rect.unit (s := S256x128) ![0, 0] S256x128.size h).toLoadRect (harg18.unread (zmA zm))))
      (arg17.view.readAt (Elt Ideal) (Rect.unit (s := S72x256x256) ![k, 0, 0] S1x256x256.size h1).toLoadRect (harg17.unread z)) y
    = zqV zm z ((Rect.unit (s := S256x18432) ![0, 256 * k] S256x256.size h3).emb y) := by
  have hk : k + 1 ≤ 72 := h1 0
  idx_vars y
  have e (u : FVec Ideal S256x256 .f32) (v : Vec Ideal S1x256x256 .f32) : k0_pay4 (F := Ideal) u v (ix2 y0 y1) = code (v (ix3 0 y0 y1)) (u (ix2 y0 y1)) := by
    pointwise [k0_pay4]
    rfl
  rw [e, tail_inv, readAt_unread]
  unfold zqV
  congr 1
  · show z ((Rect.unit (s := S72x256x256) ![k, 0, 0] S1x256x256.size h1).emb (ix3 0 y0 y1)) = _
    congr 1
    funext a
    fin_cases a
    · apply Fin.ext; show k + 1 * 0 = (256 * k + 1 * y1.val) / 256; omega
    · apply Fin.ext; show 0 + 1 * y0.val = 0 + 1 * y0.val; omega
    · apply Fin.ext; show 0 + 1 * y1.val = (256 * k + 1 * y1.val) % 256; omega
  · congr 2
    apply Fin.ext; show y0.val = 0 + 1 * y0.val; omega

end Pieces

section Runs
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole)
    (hc : cond0_1 i) (zm : Fin 256 → Fin 128 → EReal) (z : Vec Ideal S72x256x256 .f32)

/-- The last point stores the codes of the result. -/
theorem tail_L5 : ∀ p ∈ (tailRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc z (zmA zm)).1, ∀ y : p.1.shape.Idx, p.2 y = zqV zm z (p.1.emb y) := by
  iterate 72 refine all_cons _ _ _ _ (fun y => tail_piece zm z arg17 harg17 arg18 harg18 _ _ _ _ y) ?_
  exact all_nil _

/-- The last point stores the scales of the result. -/
theorem tail_L6 : ∀ p ∈ (tailRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc z (zmA zm)).2.1, ∀ y : p.1.shape.Idx, p.2 y = zsV zm (p.1.emb y) := by
  refine all_cons _ _ _ _ (fun y => ?_) (all_cons _ _ _ _ (fun y => ?_) (all_nil _))
  · change S1x128.Idx at y
    idx_vars y
    obtain rfl := Subsingleton.elim y0 0
    have e : ∀ V : FVec Ideal S256x128 .f32, k0_pay386 (F := Ideal) V (ix2 0 y1) = k0_pay384 (F := Ideal) V (ix2 ⟨128 + y1.val, by omega⟩ 0) := by
      intro V; pointwise [k0_pay386]
    refine (e _).trans ?_
    rw [readAt_unread, View.ld_unit_zero (funext fun a => by fin_cases a <;> rfl), pay384]
    show zrs zm _ = zrs zm _
    congr 1
    apply Fin.ext
    show 128 + y1.val = 128 * (1 + 1 * 0) + (0 + 1 * y1.val)
    omega
  · change S1x128.Idx at y
    idx_vars y
    obtain rfl := Subsingleton.elim y0 0
    have e : ∀ V : FVec Ideal S256x128 .f32, k0_pay385 (F := Ideal) V (ix2 0 y1) = k0_pay384 (F := Ideal) V (ix2 ⟨y1.val, by omega⟩ 0) := by
      intro V; pointwise [k0_pay385]
    refine (e _).trans ?_
    rw [readAt_unread, View.ld_unit_zero (funext fun a => by fin_cases a <;> rfl), pay384]
    show zrs zm _ = zrs zm _
    congr 1
    apply Fin.ext
    show y1.val = 128 * (0 + 1 * 0) + (0 + 1 * y1.val)
    omega

/-- The last point's stores cover the codes. -/
theorem tail_c5 : ∀ y : S256x18432.Idx, ∃ p ∈ (tailRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc z (zmA zm)).1, y ∈ p.1.set := View.cover_of_tiledL _ S256x256.size (by sl_kernel_rfl)
/-- The last point's stores cover the scales. -/
theorem tail_c6 : ∀ y : S2x128.Idx, ∃ p ∈ (tailRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc z (zmA zm)).2.1, y ∈ p.1.set := View.cover_of_tiledL _ S1x128.size (by sl_kernel_rfl)

end Runs

end Cert.KernelIdeal.Hand

end
-- ==== Proof.Steps.lean ====
module

public import proofs.«01_k».proof.Proof.HeadVal
public import proofs.«01_k».proof.Proof.MidOut
public import proofs.«01_k».proof.Proof.TailVal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

/-- A buffer written by pieces that all carry the values of one function and cover it holds that function. -/
theorem owns_of_pieces {S : Shape} {e : EltTy} (c : Dev nD) (arg : Memref sig .tc .vmem S e) (L : List (View.Piece (Elt Ideal) S e)) (G : S.Idx → Elt Ideal e)
    (hL : ∀ p ∈ L, ∀ y : p.1.shape.Idx, p.2 y = G (p.1.emb y)) (hc : ∀ y : S.Idx, ∃ p ∈ L, y ∈ p.1.set) :
    iprop(∃ f, arg.view.loc (c : Thread nD τ) ↦[arg.view.set]{fullShare} arg.view.writes (Elt Ideal) f L) ⊢ (owns (c : Thread nD τ) arg fullShare G : sProp 𝕄) := by
  iintro ⟨%f, H⟩
  unfold owns
  iexists _
  isplitr
  swap; · iexact H
  ipureintro
  exact funext fun y => View.read_writes_apply_of_pieces _ _ G L hL y (hc y)

section Steps
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole)

/-- The part of the body that runs at the first point only: what it leaves in the buffers. -/
theorem head_step (hc : cond0_0 i) (x1 : Vec Ideal S256x7168 .bf16) (x2 : Vec Ideal S1x7168 .f32) (E : Set ℕ) (K : PUnit → sProp 𝕄) :
    iprop(owns (c : Thread nD τ) arg1 fullShare x1 ∗ owns (c : Thread nD τ) arg2 fullShare x2 ∗ (∃ d, owns (c : Thread nD τ) arg7 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg18 fullShare d)
      ∗ (iprop(owns (c : Thread nD τ) arg1 fullShare x1 ∗ owns (c : Thread nD τ) arg2 fullShare x2 ∗ owns (c : Thread nD τ) arg7 fullShare (sV x1 x2) ∗ owns (c : Thread nD τ) arg10 fullShare (xqV x1 x2) ∗ owns (c : Thread nD τ) arg11 fullShare (xsV x1 x2) ∗ owns (c : Thread nD τ) arg12 fullShare (xbV x1 x2) ∗ owns (c : Thread nD τ) arg13 fullShare (xcV x1 x2) ∗ owns (c : Thread nD τ) arg14 fullShare (stV x1 x2) ∗ owns (c : Thread nD τ) arg18 fullShare zeroV) -∗ K ⟨⟩))
    ⊢ wp frame (wpE (defs₀ (F := Ideal)) Variants.none c none) E (headProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H7, H10, H11, H12, H13, H14, H18, Hk⟩
  iapply ((headRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2).2.2.2.2.2.2.2 E K)
  isplitl [H1]; · iexact H1
  isplitl [H2]; · iexact H2
  isplitl [H7]; · iexact H7
  isplitl [H10]; · iexact H10
  isplitl [H11]; · iexact H11
  isplitl [H12]; · iexact H12
  isplitl [H13]; · iexact H13
  isplitl [H14]; · iexact H14
  isplitl [H18]; · iexact H18
  iintro ⟨H1, H2, H7, H10, H11, H12, H13, H14, H18⟩
  iapply Hk
  isplitl [H1]; · iexact H1
  isplitl [H2]; · iexact H2
  isplitl [H7]; · iapply (owns_of_pieces c arg7 _ _ (head_L7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2) (head_c7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2)); iexact H7
  isplitl [H10]; · iapply (owns_of_pieces c arg10 _ _ (head_L10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2) (head_c10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2)); iexact H10
  isplitl [H11]; · iapply (owns_of_pieces c arg11 _ _ (head_L11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2) (head_c11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2)); iexact H11
  isplitl [H12]; · iapply (owns_of_pieces c arg12 _ _ (head_L12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2) (head_c12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2)); iexact H12
  isplitl [H13]; · iapply (owns_of_pieces c arg13 _ _ (head_L13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2) (head_c13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2)); iexact H13
  isplitl [H14]; · iapply (owns_of_pieces c arg14 _ _ (head_L14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2) (head_c14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2)); iexact H14
  iapply (owns_of_pieces c arg18 _ _ (head_L18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2) (head_c18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2)); iexact H18

/-- At another point that part does nothing. -/
theorem head_skip (hc : ¬cond0_0 i) (E : Set ℕ) (K : PUnit → sProp 𝕄) :
    K ⟨⟩ ⊢ wp frame (wpE (defs₀ (F := Ideal)) Variants.none c none) E (headProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold headProg
  rw [dif_neg hc]
  iintro H
  sl_step
  iexact H

/-- The part of the body that runs at the last point only: what it leaves in the buffers. -/
theorem tail_step (hc : cond0_1 i) (zm : Fin 256 → Fin 128 → EReal) (z : Vec Ideal S72x256x256 .f32) (E : Set ℕ) (K : PUnit → sProp 𝕄) :
    iprop(owns (c : Thread nD τ) arg17 fullShare z ∗ owns (c : Thread nD τ) arg18 fullShare (zmA zm) ∗ (∃ d, owns (c : Thread nD τ) arg5 fullShare d) ∗ (∃ d, owns (c : Thread nD τ) arg6 fullShare d)
      ∗ (iprop(owns (c : Thread nD τ) arg17 fullShare z ∗ owns (c : Thread nD τ) arg18 fullShare (zmA zm) ∗ owns (c : Thread nD τ) arg5 fullShare (zqV zm z) ∗ owns (c : Thread nD τ) arg6 fullShare (zsV zm)) -∗ K ⟨⟩))
    ⊢ wp frame (wpE (defs₀ (F := Ideal)) Variants.none c none) E (tailProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H17, H18, H5, H6, Hk⟩
  iapply ((tailRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc z (zmA zm)).2.2 E K)
  isplitl [H17]; · iexact H17
  isplitl [H18]; · iexact H18
  isplitl [H5]; · iexact H5
  isplitl [H6]; · iexact H6
  iintro ⟨H17, H18, H5, H6⟩
  iapply Hk
  isplitl [H17]; · iexact H17
  isplitl [H18]; · iexact H18
  isplitl [H5]; · iapply (owns_of_pieces c arg5 _ _ (tail_L5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc zm z) (tail_c5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc zm z)); iexact H5
  iapply (owns_of_pieces c arg6 _ _ (tail_L6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc zm z) (tail_c6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc zm z)); iexact H6

/-- At another point that part does nothing. -/
theorem tail_skip (hc : ¬cond0_1 i) (E : Set ℕ) (K : PUnit → sProp 𝕄) :
    K ⟨⟩ ⊢ wp frame (wpE (defs₀ (F := Ideal)) Variants.none c none) E (tailProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold tailProg
  rw [dif_neg hc]
  iintro H
  sl_step
  iexact H

set_option maxHeartbeats 1000000 in
/-- The body at any point, its first part and its last given: the block of `w` is scaled and coded, the slab of the output is
    written and the running maxima take it in. -/
theorem mid_step (xb : Fin 256 → Fin 7168 → EReal) (xs : Fin 256 → EReal) (x3 : Vec Ideal S7168x256 .bf16) (s : Fin 7168 → EReal) (x4 : Vec Ideal S1x256 .f32)
    (x17 : Vec Ideal S72x256x256 .f32) (zm : Fin 256 → Fin 128 → EReal) (E : Set ℕ) (K : PUnit → sProp 𝕄) (R₀ R₁ : sProp 𝕄)
    (hhead : ∀ K' : PUnit → sProp 𝕄, iprop(R₀ ∗ (iprop(R₁ ∗ owns (c : Thread nD τ) arg12 fullShare (xbA xb) ∗ owns (c : Thread nD τ) arg13 fullShare (xsA xs) ∗ owns (c : Thread nD τ) arg14 fullShare (rowsV s) ∗ owns (c : Thread nD τ) arg18 fullShare (zmA zm)) -∗ K' ⟨⟩)) ⊢ wp frame (wpE (defs₀ (F := Ideal)) Variants.none c none) E (headProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K') :
    iprop(R₀ ∗ owns (c : Thread nD τ) arg3 fullShare x3 ∗ owns (c : Thread nD τ) arg4 fullShare x4 ∗ (∃ d, owns (c : Thread nD τ) arg8 fullShare d) ∗ (∃ d, owns (c : Thread nD τ) arg9 fullShare d) ∗ (∃ d, owns (c : Thread nD τ) arg15 fullShare d) ∗ (∃ d, owns (c : Thread nD τ) arg16 fullShare d) ∗ owns (c : Thread nD τ) arg17 fullShare x17
      ∗ (iprop(owns (c : Thread nD τ) arg3 fullShare x3 ∗ owns (c : Thread nD τ) arg4 fullShare x4 ∗ owns (c : Thread nD τ) arg12 fullShare (xbA xb) ∗ owns (c : Thread nD τ) arg13 fullShare (xsA xs) ∗ owns (c : Thread nD τ) arg14 fullShare (rowsV s) ∗ R₁ ∗ owns (c : Thread nD τ) arg8 fullShare (wqV x3 s) ∗ owns (c : Thread nD τ) arg9 fullShare (wsV x3 s) ∗ (∃ d, owns (c : Thread nD τ) arg15 fullShare d) ∗ (∃ d, owns (c : Thread nD τ) arg16 fullShare d)
          ∗ (∃ f, ⌜∀ j : S72x256x256.Idx, f j = if (j 0).val = (i 0).val then zG xb xs x3 s x4 j else x17 j⌝ ∗ owns (c : Thread nD τ) arg17 fullShare f) ∗ owns (c : Thread nD τ) arg18 fullShare (zmA (zmxV zm xb xs x3 s x4))) -∗ wp frame (wpE (defs₀ (F := Ideal)) Variants.none c none) E (tailProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K))
    ⊢ wp frame (wpE (defs₀ (F := Ideal)) Variants.none c none) E (cc0_smoothquant_linear (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨HR, H3, H4, H8, H9, H15, H16, H17, Hk⟩
  iapply ((midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 (xbA xb) (xsA xs) (rowsV s) x17 (zmA zm)).2.2.2.2.2.2 E K R₀ R₁ hhead)
  isplitl [HR]; · iexact HR
  isplitl [H3]; · iexact H3
  isplitl [H4]; · iexact H4
  isplitl [H8]; · iexact H8
  isplitl [H9]; · iexact H9
  isplitl [H15]; · iexact H15
  isplitl [H16]; · iexact H16
  isplitl [H17]; · iexact H17
  iintro ⟨H3, H4, H12, H13, H14, HR, H8, H9, ⟨%f15, H15⟩, ⟨%f16, H16⟩, H17, H18⟩
  iapply Hk
  isplitl [H3]; · iexact H3
  isplitl [H4]; · iexact H4
  isplitl [H12]; · iexact H12
  isplitl [H13]; · iexact H13
  isplitl [H14]; · iexact H14
  isplitl [HR]; · iexact HR
  isplitl [H8]; · iapply (owns_of_pieces c arg8 _ _ (mid_L8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm) (mid_c8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm)); iexact H8
  isplitl [H9]; · iapply (owns_of_pieces c arg9 _ _ (mid_L9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm) (mid_c9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm)); iexact H9
  isplitl [H15]
  · iexists _; unfold owns; iexists _; isplitr
    swap; · iexact H15
    ipureintro; rfl
  isplitl [H16]
  · iexists _; unfold owns; iexists _; isplitr
    swap; · iexact H16
    ipureintro; rfl
  isplitl [H17]
  · iexists _; isplitr
    swap
    · unfold owns; iexists _; isplitr
      swap; · iexact H17
      ipureintro; rfl
    ipureintro
    intro j
    split
    · next h => exact View.read_writes_apply_of_pieces _ _ (zG xb xs x3 s x4) _ (mid_L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm) j (mid_mem17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm j h)
    · next h =>
      rw [View.read_writes_apply_of_forall_not_mem _ _ j _ (mid_nmem17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm j h)]
      exact congrFun (harg17.read_unread x17) j
  iapply (owns_of_pieces c arg18 _ _ (mid_L18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm) (mid_c18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xb xs x3 s x4 x17 zm)); iexact H18

end Steps

end Cert.KernelIdeal.Hand

end
-- ==== Proof.BodyDefs.lean ====
module

public import proofs.«01_k».proof.Proof.Steps
public import proofs.«01_k».proof.Proof.Gen.KernelIdeal.Frame
public import Idealize.ShloMosaic.Lib.Pipeline.DatRel
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

section Packs
variable (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S7168x256 .bf16) (harg3 : arg3.IsWhole) (arg4 : Memref sig .tc .vmem S1x256 .f32) (harg4 : arg4.IsWhole) (arg5 : Memref sig .tc .vmem S256x18432 .i8) (harg5 : arg5.IsWhole) (arg6 : Memref sig .tc .vmem S2x128 .f32) (harg6 : arg6.IsWhole) (arg7 : Memref sig .tc .vmem S1x7168 .f32) (harg7 : arg7.IsWhole) (arg8 : Memref sig .tc .vmem S7168x256 .i8) (harg8 : arg8.IsWhole) (arg9 : Memref sig .tc .vmem S1x256 .f32) (harg9 : arg9.IsWhole) (arg10 : Memref sig .tc .vmem S256x7168 .i8) (harg10 : arg10.IsWhole) (arg11 : Memref sig .tc .vmem S2x128 .f32) (harg11 : arg11.IsWhole) (arg12 : Memref sig .tc .vmem S256x7168 .bf16) (harg12 : arg12.IsWhole) (arg13 : Memref sig .tc .vmem S256x128 .f32) (harg13 : arg13.IsWhole) (arg14 : Memref sig .tc .vmem S7168x128 .f32) (harg14 : arg14.IsWhole) (arg15 : Memref sig .tc .vmem S7168x256 .f32) (harg15 : arg15.IsWhole) (arg16 : Memref sig .tc .vmem S7168x256 .bf16) (harg16 : arg16.IsWhole) (arg17 : Memref sig .tc .vmem S72x256x256 .f32) (harg17 : arg17.IsWhole) (arg18 : Memref sig .tc .vmem S256x128 .f32) (harg18 : arg18.IsWhole)

/-- `head_step` with the buffers grouped as the body's rule takes them. -/
theorem head_pack (hc : cond0_0 i) (x1 : Vec Ideal S256x7168 .bf16) (x2 : Vec Ideal S1x7168 .f32) (E : Set ℕ) (K : PUnit → sProp 𝕄) :
    iprop(iprop(owns (c : Thread nD τ) arg1 fullShare x1 ∗ owns (c : Thread nD τ) arg2 fullShare x2 ∗ (∃ d, owns (c : Thread nD τ) arg7 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg18 fullShare d))
      ∗ (iprop(iprop(owns (c : Thread nD τ) arg1 fullShare x1 ∗ owns (c : Thread nD τ) arg2 fullShare x2 ∗ owns (c : Thread nD τ) arg7 fullShare (sV x1 x2) ∗ owns (c : Thread nD τ) arg10 fullShare (xqV x1 x2) ∗ owns (c : Thread nD τ) arg11 fullShare (xsV x1 x2)) ∗ owns (c : Thread nD τ) arg12 fullShare (xbV x1 x2) ∗ owns (c : Thread nD τ) arg13 fullShare (xcV x1 x2) ∗ owns (c : Thread nD τ) arg14 fullShare (stV x1 x2) ∗ owns (c : Thread nD τ) arg18 fullShare zeroV) -∗ K ⟨⟩))
    ⊢ wp frame (wpE (defs₀ (F := Ideal)) Variants.none c none) E (headProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨⟨H1, H2, H7, H10, H11, H12, H13, H14, H18⟩, Hk⟩
  iapply (head_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 E K)
  isplitl [H1]; · iexact H1
  isplitl [H2]; · iexact H2
  isplitl [H7]; · iexact H7
  isplitl [H10]; · iexact H10
  isplitl [H11]; · iexact H11
  isplitl [H12]; · iexact H12
  isplitl [H13]; · iexact H13
  isplitl [H14]; · iexact H14
  isplitl [H18]; · iexact H18
  iintro ⟨H1, H2, H7, H10, H11, H12, H13, H14, H18⟩
  iapply Hk
  isplitl [H1 H2 H7 H10 H11]
  · isplitl [H1]; · iexact H1
    isplitl [H2]; · iexact H2
    isplitl [H7]; · iexact H7
    isplitl [H10]; · iexact H10
    iexact H11
  isplitl [H12]; · iexact H12
  isplitl [H13]; · iexact H13
  isplitl [H14]; · iexact H14
  iexact H18

/-- `head_skip` with the buffers grouped as the body's rule takes them. -/
theorem skip_pack (hc : ¬cond0_0 i) (R R₁ : sProp 𝕄) (E : Set ℕ) (K : PUnit → sProp 𝕄) :
    iprop(iprop(R₁ ∗ R) ∗ (iprop(R₁ ∗ R) -∗ K ⟨⟩)) ⊢ wp frame (wpE (defs₀ (F := Ideal)) Variants.none c none) E (headProg (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H, Hk⟩
  iapply (head_skip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc E K)
  iapply Hk
  iexact H

end Packs

variable (m : (ℓ : Loc nD τ sig) → Buf (Elt Ideal) ℓ) (ρ : Dev nD → PrngReg)

/-! ## What the buffers hold -/

/-- The grid has 72 points. -/
theorem N_cfg : cfg0.N = 72 := N_0

/-- The first point. -/
def t0 : Fin cfg0.N := ⟨0, by rw [N_cfg]; omega⟩

/-- `x`, as the region finds it. -/
def X1 (c : Dev nD) : Vec Ideal S256x7168 .bf16 := iblk m c 0 t0
/-- The column maxima of `w`, as the region finds them. -/
def X2 (c : Dev nD) : Vec Ideal S1x7168 .f32 := iblk m c 1 t0
/-- The block of `w` of point `t`. -/
def W3 (c : Dev nD) (t : Fin cfg0.N) : Vec Ideal S7168x256 .bf16 := iblk m c 2 t
/-- The block of the bias of point `t`. -/
def B4 (c : Dev nD) (t : Fin cfg0.N) : Vec Ideal S1x256 .f32 := iblk m c 3 t
/-- The smoothing factors. -/
def sK (c : Dev nD) : Fin 7168 → EReal := sF (X1 m c) (X2 m c)
/-- The codes of `x` as numbers. -/
def xbK (c : Dev nD) (r : Fin 256) (k : Fin 7168) : EReal := num (xcode (X1 m c) (sK m c) r k)
/-- The scales of the rows of `x`. -/
def xsK (c : Dev nD) (r : Fin 256) : EReal := xscl (X1 m c) (sK m c) r

/-- The running maxima before point `n`. -/
def ZM (c : Dev nD) : ℕ → Fin 256 → Fin 128 → EReal
  | 0 => fun _ _ => 0
  | n + 1 => if h : n < cfg0.N then zmxV (ZM c n) (xbK m c) (xsK m c) (W3 m c ⟨n, h⟩) (sK m c) (B4 m c ⟨n, h⟩) else ZM c n

/-- One point extends the running maxima. -/
theorem ZM_succ (c : Dev nD) (t : Fin cfg0.N) : ZM m c (t.val + 1) = zmxV (ZM m c t.val) (xbK m c) (xsK m c) (W3 m c t) (sK m c) (B4 m c t) := by
  show (if h : t.val < cfg0.N then _ else _) = _
  rw [dif_pos t.isLt]

/-- The layer's output, slab by slab. -/
def ZZ (c : Dev nD) : Vec Ideal S72x256x256 .f32 := fun j =>
  zG (xbK m c) (xsK m c) (W3 m c ⟨(j 0).val, lt_of_lt_of_eq (j 0).isLt N_cfg.symm⟩) (sK m c) (B4 m c ⟨(j 0).val, lt_of_lt_of_eq (j 0).isLt N_cfg.symm⟩) j

/-- A point's coordinate is its number. -/
theorem coords_val (t : Fin cfg0.N) : (grid0.coords t 0).val = t.val := by
  have ht : t.val < 72 := lt_of_lt_of_eq t.isLt N_cfg
  have e0 : (grid0.coords t 0).val = t.val / 1 % 72 := Pipeline.Grid.coords_val t 0 (by decide) rfl
  omega

/-- The slabs below the next point, from the slabs below this one and the one this point writes. -/
theorem slabs_step (c : Dev nD) (t : Fin cfg0.N) (f f' : Vec Ideal S72x256x256 .f32)
    (hf : ∀ j : S72x256x256.Idx, (j 0).val < t.val → f j = ZZ m c j)
    (h : ∀ j : S72x256x256.Idx, f' j = if (j 0).val = (grid0.coords t 0).val then zG (xbK m c) (xsK m c) (W3 m c t) (sK m c) (B4 m c t) j else f j)
    (j : S72x256x256.Idx) (hj : (j 0).val < t.val + 1) : f' j = ZZ m c j := by
  rw [h j]
  split
  · next e =>
    rw [coords_val] at e
    have e' : (⟨(j 0).val, lt_of_lt_of_eq (j 0).isLt N_cfg.symm⟩ : Fin cfg0.N) = t := Fin.ext e
    unfold ZZ
    rw [e']
  · next e =>
    rw [coords_val] at e
    exact hf j (by omega)

/-- The carried scratch buffers before point `n`, and the others at anything. -/
def PhiP (c : Dev nD) (n : ℕ) : sProp 𝕄 :=
  iprop(iprop(owns (c : Thread nD τ) scM0_0 fullShare (xbA (xbK m c)) ∗ owns (c : Thread nD τ) scM0_1 fullShare (xsA (xsK m c)) ∗ owns (c : Thread nD τ) scM0_2 fullShare (rowsV (sK m c)) ∗ (∃ d, owns (c : Thread nD τ) scM0_3 fullShare d) ∗ (∃ d, owns (c : Thread nD τ) scM0_4 fullShare d)
    ∗ (∃ f : Vec Ideal S72x256x256 .f32, ⌜∀ j : S72x256x256.Idx, (j 0).val < n → f j = ZZ m c j⌝ ∗ owns (c : Thread nD τ) scM0_5 fullShare f) ∗ owns (c : Thread nD τ) scM0_6 fullShare (zmA (ZM m c n))) ∗ (∃ r, prngReg c r))

/-- The invariant: before the first point anything, then the carried buffers. -/
def PhiS (c : Dev nD) : ℕ → sProp 𝕄
  | 0 => Pipeline.ΦA spec0 c
  | n + 1 => PhiP m c (n + 1)

/-- After the first point the scratch buffers hold what the points before left. -/
theorem PhiS_pos (c : Dev nD) (n : ℕ) (hz : n ≠ 0) : PhiS m c n = PhiP m c n := by
  cases n with
  | zero => exact absurd rfl hz
  | succ n => rfl

/-- The windows whose contents are stated by a relation: the outputs. -/
def fgt0 : Fin 11 → Bool := fun w => w.val == 4 || w.val == 5 || w.val == 6 || w.val == 7 || w.val == 8 || w.val == 9 || w.val == 10

/-- What the body leaves in each output's buffer at point `t`. -/
def Rl (c : Dev nD) (w : Fin cfg0.W) (t : Fin cfg0.N) (X : (cfg0.win w).block.Idx → Elt Ideal (cfg0.win w).elt) : Prop :=
  match w, X with
  | ⟨4, _⟩, X => t.val = 71 → X = zqV (ZM m c 72) (ZZ m c)
  | ⟨5, _⟩, X => t.val = 71 → X = zsV (ZM m c 72)
  | ⟨6, _⟩, X => X = sV (X1 m c) (X2 m c)
  | ⟨7, _⟩, X => X = wqV (W3 m c t) (sK m c)
  | ⟨8, _⟩, X => X = wsV (W3 m c t) (sK m c)
  | ⟨9, _⟩, X => X = xqV (X1 m c) (X2 m c)
  | ⟨10, _⟩, X => X = xsV (X1 m c) (X2 m c)
  | _, _ => True

/-- The pipeline's proof data. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val
  q _ := fullShare
  owed _ := 0

/-- The arrays as the region finds them. -/
theorem A_eq (c : Dev nD) (w : Fin cfg0.W) : (dats m c).A w = V m c (Pipeline.arrRef spec0 w) := by
  dsimp only [dats]

/-- Input 0's block is unchanged by the body. -/
theorem after0_0 (c : Dev nD) (t : Fin cfg0.N) : (dats m c).after 0 t = iblk m c 0 t := by dsimp only [dats]
/-- Input 1's block is unchanged by the body. -/
theorem after0_1 (c : Dev nD) (t : Fin cfg0.N) : (dats m c).after 1 t = iblk m c 1 t := by dsimp only [dats]
/-- Input 2's block is unchanged by the body. -/
theorem after0_2 (c : Dev nD) (t : Fin cfg0.N) : (dats m c).after 2 t = iblk m c 2 t := by dsimp only [dats]
/-- Input 3's block is unchanged by the body. -/
theorem after0_3 (c : Dev nD) (t : Fin cfg0.N) : (dats m c).after 3 t = iblk m c 3 t := by dsimp only [dats]

/-- Input 0's block before the body. -/
theorem before0_0 (c : Dev nD) (t : Fin cfg0.N) (d) : (dats m c).before 0 t d = iblk m c 0 t :=
  before0_0_of m (dats m c) (A_eq m c 0) (after0_0 m c) t d
/-- Input 1's block before the body. -/
theorem before0_1 (c : Dev nD) (t : Fin cfg0.N) (d) : (dats m c).before 1 t d = iblk m c 1 t :=
  before0_1_of m (dats m c) (A_eq m c 1) (after0_1 m c) t d
/-- Input 2's block before the body. -/
theorem before0_2 (c : Dev nD) (t : Fin cfg0.N) (d) : (dats m c).before 2 t d = iblk m c 2 t :=
  before0_2_of m (dats m c) (A_eq m c 2) (after0_2 m c) t d
/-- Input 3's block before the body. -/
theorem before0_3 (c : Dev nD) (t : Fin cfg0.N) (d) : (dats m c).before 3 t d = iblk m c 3 t :=
  before0_3_of m (dats m c) (A_eq m c 3) (after0_3 m c) t d

/-- The proof data with the outputs' contents by relation. -/
abbrev rdats (c : Dev nD) : RDat τ (Elt Ideal) Unit ℕ (UR sig nD τ) ℕ cfg0 c := (dats m c).toRRel fgt0 (Rl m c)

/-- The scratch buffers before a point. -/
theorem Phi_castSucc (c : Dev nD) (t : Fin cfg0.N) : (dats m c).Φ t.castSucc = PhiS m c t.val := by
  dsimp only [dats]; rfl
/-- The scratch buffers after a point. -/
theorem Phi_succ (c : Dev nD) (t : Fin cfg0.N) : (dats m c).Φ t.succ = PhiP m c (t.val + 1) := by
  dsimp only [dats]; rfl

/-- An output written only at the first point is found, at a later point, as the first point left it. -/
theorem finds_kept (c : Dev nD) (w : Fin cfg0.W) (hw : fgt0 w = true) (hf : ∀ t : Fin cfg0.N, (cfg0.win w).fetch t = false)
    (hl : ∀ t : Fin cfg0.N, (cfg0.win w).flush t = true ↔ t.val % 72 = 71) (t : Fin cfg0.N) (ht : t.val ≠ 0) (Y)
    (h : (rdats m c).Finds w t Y) : ∃ t', Rl m c w t' Y := by
  have hN : t.val < 72 := lt_of_lt_of_eq t.isLt N_cfg
  rcases ((rdats m c).finds_of_pos (hf t) ht Y).1 h with h | h
  · have := (hl _).1 h
    simp only at this
    omega
  · obtain ⟨Z, -, h⟩ := h
    rw [Dat.toRRel_after_of_eq_true (h := hw)] at h
    exact ⟨_, h⟩

/-- Output 6 is never fetched. -/
theorem fetch6 : ∀ t : Fin cfg0.N, (cfg0.win 6).fetch t = false := (by decide +kernel : ∀ t : Fin cfg0.N, (cfg0.win 6).fetch t = false)
/-- Output 9 is never fetched. -/
theorem fetch9 : ∀ t : Fin cfg0.N, (cfg0.win 9).fetch t = false := (by decide +kernel : ∀ t : Fin cfg0.N, (cfg0.win 9).fetch t = false)
/-- Output 10 is never fetched. -/
theorem fetch10 : ∀ t : Fin cfg0.N, (cfg0.win 10).fetch t = false := (by decide +kernel : ∀ t : Fin cfg0.N, (cfg0.win 10).fetch t = false)

/-- Output 6 at a later point, as found. -/
theorem found6 (c : Dev nD) (t : Fin cfg0.N) (ht : t.val ≠ 0) (Y) (h : (rdats m c).Finds 6 t Y) : Rl m c 6 t Y := by
  obtain ⟨t', h'⟩ := finds_kept m c 6 rfl fetch6 flush0_6 t ht Y h
  have h2 : Y = sV (X1 m c) (X2 m c) := h'
  exact h2

/-- Output 9 at a later point, as found. -/
theorem found9 (c : Dev nD) (t : Fin cfg0.N) (ht : t.val ≠ 0) (Y) (h : (rdats m c).Finds 9 t Y) : Rl m c 9 t Y := by
  obtain ⟨t', h'⟩ := finds_kept m c 9 rfl fetch9 flush0_9 t ht Y h
  have h2 : Y = xqV (X1 m c) (X2 m c) := h'
  exact h2

/-- Output 10 at a later point, as found. -/
theorem found10 (c : Dev nD) (t : Fin cfg0.N) (ht : t.val ≠ 0) (Y) (h : (rdats m c).Finds 10 t Y) : Rl m c 10 t Y := by
  obtain ⟨t', h'⟩ := finds_kept m c 10 rfl fetch10 flush0_10 t ht Y h
  have h2 : Y = xsV (X1 m c) (X2 m c) := h'
  exact h2

/-! ## The body obligation -/

/-- What the body is called with at point `t`. -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ Y, ⌜(rdats m c).Finds 4 t Y⌝ ∗ owns (c : Thread nD τ) (ms0_4 t) fullShare Y)
    ∗ (∃ Y, ⌜(rdats m c).Finds 5 t Y⌝ ∗ owns (c : Thread nD τ) (ms0_5 t) fullShare Y)
    ∗ (∃ Y, ⌜(rdats m c).Finds 6 t Y⌝ ∗ owns (c : Thread nD τ) (ms0_6 t) fullShare Y)
    ∗ (∃ Y, ⌜(rdats m c).Finds 7 t Y⌝ ∗ owns (c : Thread nD τ) (ms0_7 t) fullShare Y)
    ∗ (∃ Y, ⌜(rdats m c).Finds 8 t Y⌝ ∗ owns (c : Thread nD τ) (ms0_8 t) fullShare Y)
    ∗ (∃ Y, ⌜(rdats m c).Finds 9 t Y⌝ ∗ owns (c : Thread nD τ) (ms0_9 t) fullShare Y)
    ∗ (∃ Y, ⌜(rdats m c).Finds 10 t Y⌝ ∗ owns (c : Thread nD τ) (ms0_10 t) fullShare Y))

/-- What it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X))

end Cert.KernelIdeal.Hand

end
-- ==== Proof.Inputs.lean ====
module

public import proofs.«01_k».proof.Proof.BodyDefs
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ)

/-- The flattening of `x`, entry by entry. -/
theorem c0 (x : Vec Ideal S2x128x7168 .bf16) (r : Fin 256) (k : Fin 7168) : shapeCast S256x7168 x shapeCasts_S2x128x7168_S256x7168 (ix2 r k) = x (ix3 ⟨r.val / 128, by omega⟩ ⟨r.val % 128, Nat.mod_lt _ (by decide)⟩ k) := by
  pointwise []
/-- The column maxima as one row, entry by entry. -/
theorem c1 (x : Vec Ideal S7168 .f32) (k : Fin 7168) : shapeCast S1x7168 x shapeCasts_S7168_S1x7168 (ix2 0 k) = x (ix1 k) := by
  pointwise []
/-- The bias as one row, entry by entry. -/
theorem c2 (x : Vec Ideal S18432 .f32) (k : Fin 18432) : shapeCast S1x18432 x shapeCasts_S18432_S1x18432 (ix2 0 k) = x (ix1 k) := by
  pointwise []

/-- `x` as the region finds it. -/
theorem V_v0 (c : Dev nD) : V m c main_v0 = shapeCast S256x7168 (m ((c.tc : Thread nD τ).loc main_arg0)) shapeCasts_S2x128x7168_S256x7168 := by
  rfl
/-- The column maxima as the region finds them. -/
theorem V_v1 (c : Dev nD) : V m c main_v1 = shapeCast S1x7168 (m ((c.tc : Thread nD τ).loc main_arg2)) shapeCasts_S7168_S1x7168 := by
  rfl
/-- The bias as the region finds it. -/
theorem V_v2 (c : Dev nD) : V m c main_v2 = shapeCast S1x18432 (m ((c.tc : Thread nD τ).loc main_arg3)) shapeCasts_S18432_S1x18432 := by
  rfl

/-- Which block of `w` a point reads. -/
theorem idx2 : ∀ t : Fin cfg0.N, win0_2.index t 0 = 0 ∧ win0_2.index t 1 = t.val := (by decide +kernel : ∀ t : Fin cfg0.N, win0_2.index t 0 = 0 ∧ win0_2.index t 1 = t.val)
/-- Which block of the bias a point reads. -/
theorem idx3 : ∀ t : Fin cfg0.N, win0_3.index t 0 = 0 ∧ win0_3.index t 1 = t.val := (by decide +kernel : ∀ t : Fin cfg0.N, win0_3.index t 0 = 0 ∧ win0_3.index t 1 = t.val)
/-- Every point reads all of `x`. -/
theorem idx0 : ∀ t : Fin cfg0.N, win0_0.index t 0 = 0 ∧ win0_0.index t 1 = 0 := (by decide +kernel : ∀ t : Fin cfg0.N, win0_0.index t 0 = 0 ∧ win0_0.index t 1 = 0)
/-- Every point reads all column maxima. -/
theorem idx1 : ∀ t : Fin cfg0.N, win0_1.index t 0 = 0 ∧ win0_1.index t 1 = 0 := (by decide +kernel : ∀ t : Fin cfg0.N, win0_1.index t 0 = 0 ∧ win0_1.index t 1 = 0)

/-- The kernel's `x` is the argument's. -/
theorem X1_eq (c : Dev nD) (r : Fin 256) (k : Fin 7168) : X1 m c (ix2 r k) = m ((c.tc : Thread nD τ).loc main_arg0) (ix3 ⟨r.val / 128, by omega⟩ ⟨r.val % 128, Nat.mod_lt _ (by decide)⟩ k) := by
  have e : X1 m c (ix2 r k) = V m c main_v0 (ix2 r k) := by
    unfold X1
    blk_simp [iblk]
    congr 1
    funext a
    match a with
    | ⟨0, _⟩ => apply Fin.ext; blk_simp [(idx0 t0).1]
    | ⟨1, _⟩ => apply Fin.ext; blk_simp [(idx0 t0).2]
  rw [e, V_v0]
  exact c0 _ r k

/-- The kernel's column maxima are the argument's. -/
theorem X2_eq (c : Dev nD) (k : Fin 7168) : X2 m c (ix2 0 k) = m ((c.tc : Thread nD τ).loc main_arg2) (ix1 k) := by
  have e : X2 m c (ix2 0 k) = V m c main_v1 (ix2 0 k) := by
    unfold X2
    blk_simp [iblk]
    congr 1
    funext a
    match a with
    | ⟨0, _⟩ => apply Fin.ext; blk_simp [(idx1 t0).1]
    | ⟨1, _⟩ => apply Fin.ext; blk_simp [(idx1 t0).2]
  rw [e, V_v1]
  exact c1 _ k

/-- The block of `w` of a point, from the argument. -/
theorem W3_eq (c : Dev nD) (t : Fin cfg0.N) (k : Fin 7168) (n : Fin 256) :
    W3 m c t (ix2 k n) = m ((c.tc : Thread nD τ).loc main_arg1) (ix2 k ⟨256 * t.val + n.val, by have := lt_of_lt_of_eq t.isLt N_cfg; omega⟩) := by
  have e : W3 m c t (ix2 k n) = V m c main_arg1 (ix2 k ⟨256 * t.val + n.val, by have := lt_of_lt_of_eq t.isLt N_cfg; omega⟩) := by
    unfold W3
    blk_simp [iblk]
    congr 1
    funext a
    match a with
    | ⟨0, _⟩ => apply Fin.ext; blk_simp [(idx2 t).1]
    | ⟨1, _⟩ => apply Fin.ext; blk_simp [(idx2 t).2]; show _ = 256 * t.val + n.val; omega
  rw [e, V_main_arg1]

/-- The block of the bias of a point, from the argument. -/
theorem B4_eq (c : Dev nD) (t : Fin cfg0.N) (n : Fin 256) :
    B4 m c t (ix2 0 n) = m ((c.tc : Thread nD τ).loc main_arg3) (ix1 ⟨256 * t.val + n.val, by have := lt_of_lt_of_eq t.isLt N_cfg; omega⟩) := by
  have e : B4 m c t (ix2 0 n) = V m c main_v2 (ix2 0 ⟨256 * t.val + n.val, by have := lt_of_lt_of_eq t.isLt N_cfg; omega⟩) := by
    unfold B4
    blk_simp [iblk]
    congr 1
    funext a
    match a with
    | ⟨0, _⟩ => apply Fin.ext; blk_simp [(idx3 t).1]
    | ⟨1, _⟩ => apply Fin.ext; blk_simp [(idx3 t).2]; show _ = 256 * t.val + n.val; omega
  rw [e, V_v2]
  exact c2 _ _

end Cert.KernelIdeal.Hand

end
-- ==== Proof.BodyFirst.lean ====
module

public import proofs.«01_k».proof.Proof.BodyDefs
public import proofs.«01_k».proof.Proof.Gen.KernelIdeal.Frame
public import Idealize.ShloMosaic.Lib.Pipeline.DatRel
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
/-- The body at the first point. -/
theorem sound_first (c : Dev nD) (t : Fin cfg0.N) (ht : t.val = 0) : bodyPre m c t ⊢ wp frame (wpE (defs₀ (F := Ideal)) Variants.none c none) Set.univ (bodyAt0 t) (fun _ => bodyPost m c t) := by
  have ht1 : ¬t.val = 71 := by omega
  have hc0 : cond0_0 (grid0.coords t) := (hcond0_0 t).mpr (by omega)
  have hc1 : ¬cond0_1 (grid0.coords t) := fun h => by have := (hcond0_1 t).mp h; omega
  have e : t = t0 := Fin.ext ht
  have e1 : iblk m c 0 t = X1 m c := by rw [e]; rfl
  have e2 : iblk m c 1 t = X2 m c := by rw [e]; rfl
  have e3 : zmA (ZM m c t.val) = zeroV := by rw [ht]; rfl
  have hhead : ∀ K' : PUnit → sProp 𝕄, iprop(iprop(owns (c : Thread nD τ) (ms0_0 t) fullShare (X1 m c) ∗ owns (c : Thread nD τ) (ms0_1 t) fullShare (X2 m c) ∗ (∃ d, owns (c : Thread nD τ) (ms0_6 t) fullShare d) ∗ (∃ d, owns (c : Thread nD τ) (ms0_9 t) fullShare d) ∗ (∃ d, owns (c : Thread nD τ) (ms0_10 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_6 fullShare d))
      ∗ (iprop(iprop(owns (c : Thread nD τ) (ms0_0 t) fullShare (X1 m c) ∗ owns (c : Thread nD τ) (ms0_1 t) fullShare (X2 m c) ∗ owns (c : Thread nD τ) (ms0_6 t) fullShare (sV (X1 m c) (X2 m c)) ∗ owns (c : Thread nD τ) (ms0_9 t) fullShare (xqV (X1 m c) (X2 m c)) ∗ owns (c : Thread nD τ) (ms0_10 t) fullShare (xsV (X1 m c) (X2 m c))) ∗ owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))) -∗ K' ⟨⟩))
      ⊢ wp frame (wpE (defs₀ (F := Ideal)) Variants.none c none) Set.univ (headProg (F := Ideal) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K' := by
    rw [e3]
    exact fun K' => head_pack c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 (X1 m c) (X2 m c) Set.univ K'
  unfold bodyPre bodyAt0
  simp only [before0_0, before0_1, before0_2, before0_3]
  rw [e1, e2]
  rw [Phi_castSucc, show PhiS m c t.val = PhiS m c 0 by rw [ht], show PhiS m c 0 = Pipeline.ΦA spec0 c from rfl, PhiA0_eq]
  iintro ⟨⟨⟨HS0, HS1, HS2, HS3, HS4, ⟨%f, HS5⟩, HS6⟩, Hg⟩, Ho, ⟨%d0, H0⟩, ⟨%d1, H1⟩, ⟨%d2, H2⟩, ⟨%d3, H3⟩, ⟨%Y4, %hY4, H4⟩, ⟨%Y5, %hY5, H5⟩, ⟨%Y6, %hY6, H6⟩, ⟨%Y7, %hY7, H7⟩, ⟨%Y8, %hY8, H8⟩, ⟨%Y9, %hY9, H9⟩, ⟨%Y10, %hY10, H10⟩⟩
  iapply (mid_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (xbK m c) (xsK m c) (W3 m c t) (sK m c) (B4 m c t) f (ZM m c t.val) Set.univ (fun _ => bodyPost m c t)
    iprop(owns (c : Thread nD τ) (ms0_0 t) fullShare (X1 m c) ∗ owns (c : Thread nD τ) (ms0_1 t) fullShare (X2 m c) ∗ (∃ d, owns (c : Thread nD τ) (ms0_6 t) fullShare d) ∗ (∃ d, owns (c : Thread nD τ) (ms0_9 t) fullShare d) ∗ (∃ d, owns (c : Thread nD τ) (ms0_10 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_6 fullShare d))
    iprop(owns (c : Thread nD τ) (ms0_0 t) fullShare (X1 m c) ∗ owns (c : Thread nD τ) (ms0_1 t) fullShare (X2 m c) ∗ owns (c : Thread nD τ) (ms0_6 t) fullShare (sV (X1 m c) (X2 m c)) ∗ owns (c : Thread nD τ) (ms0_9 t) fullShare (xqV (X1 m c) (X2 m c)) ∗ owns (c : Thread nD τ) (ms0_10 t) fullShare (xsV (X1 m c) (X2 m c))) hhead)
  isplitl [H0 H1 H6 H9 H10 HS0 HS1 HS2 HS6]
  · isplitl [H0]; · iexact H0
    isplitl [H1]; · iexact H1
    isplitl [H6]; · iexists _; iexact H6
    isplitl [H9]; · iexists _; iexact H9
    isplitl [H10]; · iexists _; iexact H10
    isplitl [HS0]; · iexact HS0
    isplitl [HS1]; · iexact HS1
    isplitl [HS2]; · iexact HS2
    iexact HS6
  isplitl [H2]; · iexact H2
  isplitl [H3]; · iexact H3
  isplitl [H7]; · iexists _; iexact H7
  isplitl [H8]; · iexists _; iexact H8
  isplitl [HS3]; · iexact HS3
  isplitl [HS4]; · iexact HS4
  isplitl [HS5]; · iexact HS5
  iintro ⟨H2, H3, HS0, HS1, HS2, ⟨H0, H1, H6, H9, H10⟩, H7, H8, HS3, HS4, ⟨%f', %hf', HS5⟩, HS6⟩
  have hnew : ∀ j : S72x256x256.Idx, (j 0).val < t.val + 1 → f' j = ZZ m c j := slabs_step m c t f f' (fun j h => absurd h (by omega)) hf'
  · iapply (tail_skip c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc1 Set.univ (fun _ => bodyPost m c t))
    unfold bodyPost
    rw [Phi_succ, after0_0, after0_1, e1, e2, after0_2, after0_3, show (dats m c).owesAt () t.succ = (dats m c).owesAt () t.castSucc from rfl]
    unfold PhiP
    rw [ZM_succ]
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]
        · iexists f'; isplitr
          swap; · iexact HS5
          ipureintro; exact hnew
        iexact HS6
      iexact Hg
    isplitl [Ho]; · iexact Ho
    isplitl [H0]; · iexact H0
    isplitl [H1]; · iexact H1
    isplitl [H2]; · iexact H2
    isplitl [H3]; · iexact H3
    isplitl [H4]
    · iexists _; isplitr
      swap; · iexact H4
      ipureintro; exact fun h => absurd h ht1
    isplitl [H5]
    · iexists _; isplitr
      swap; · iexact H5
      ipureintro; exact fun h => absurd h ht1
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    iexists _; isplitr
    swap; · iexact H10
    ipureintro; rfl

end Cert.KernelIdeal.Hand

end
-- ==== Proof.BodyMid.lean ====
module

public import proofs.«01_k».proof.Proof.BodyDefs
public import proofs.«01_k».proof.Proof.Gen.KernelIdeal.Frame
public import Idealize.ShloMosaic.Lib.Pipeline.DatRel
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
/-- The body at a point that is neither the first nor the last. -/
theorem sound_mid (c : Dev nD) (t : Fin cfg0.N) (ht : t.val ≠ 0) (ht1 : ¬t.val = 71) : bodyPre m c t ⊢ wp frame (wpE (defs₀ (F := Ideal)) Variants.none c none) Set.univ (bodyAt0 t) (fun _ => bodyPost m c t) := by
  have hN : t.val < 72 := lt_of_lt_of_eq t.isLt N_cfg
  have hc0 : ¬cond0_0 (grid0.coords t) := fun h => by have := (hcond0_0 t).mp h; omega
  have hc1 : ¬cond0_1 (grid0.coords t) := fun h => by have := (hcond0_1 t).mp h; omega
  unfold bodyPre bodyAt0
  simp only [before0_0, before0_1, before0_2, before0_3]
  rw [Phi_castSucc, PhiS_pos m c _ ht]
  unfold PhiP
  iintro ⟨⟨⟨HS0, HS1, HS2, HS3, HS4, ⟨%f, %hf, HS5⟩, HS6⟩, Hg⟩, Ho, ⟨%d0, H0⟩, ⟨%d1, H1⟩, ⟨%d2, H2⟩, ⟨%d3, H3⟩, ⟨%Y4, %hY4, H4⟩, ⟨%Y5, %hY5, H5⟩, ⟨%Y6, %hY6, H6⟩, ⟨%Y7, %hY7, H7⟩, ⟨%Y8, %hY8, H8⟩, ⟨%Y9, %hY9, H9⟩, ⟨%Y10, %hY10, H10⟩⟩
  replace hY6 := found6 m c t ht Y6 hY6
  replace hY9 := found9 m c t ht Y9 hY9
  replace hY10 := found10 m c t ht Y10 hY10
  have hhead : ∀ K' : PUnit → sProp 𝕄, iprop(iprop(iprop(∃ r, prngReg c r) ∗ iprop(owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))))
      ∗ (iprop(iprop(∃ r, prngReg c r) ∗ owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))) -∗ K' ⟨⟩))
      ⊢ wp frame (wpE (defs₀ (F := Ideal)) Variants.none c none) Set.univ (headProg (F := Ideal) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K' := (fun K' => skip_pack c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 iprop(owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))) iprop(∃ r, prngReg c r) Set.univ K')
  iapply (mid_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (xbK m c) (xsK m c) (W3 m c t) (sK m c) (B4 m c t) f (ZM m c t.val) Set.univ (fun _ => bodyPost m c t)
    iprop(iprop(∃ r, prngReg c r) ∗ iprop(owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))))
    iprop(∃ r, prngReg c r) hhead)
  isplitl [Hg HS0 HS1 HS2 HS6]
  · isplitl [Hg]; · iexact Hg
    isplitl [HS0]; · iexact HS0
    isplitl [HS1]; · iexact HS1
    isplitl [HS2]; · iexact HS2
    iexact HS6
  isplitl [H2]; · iexact H2
  isplitl [H3]; · iexact H3
  isplitl [H7]; · iexists _; iexact H7
  isplitl [H8]; · iexists _; iexact H8
  isplitl [HS3]; · iexact HS3
  isplitl [HS4]; · iexact HS4
  isplitl [HS5]; · iexact HS5
  iintro ⟨H2, H3, HS0, HS1, HS2, Hg, H7, H8, HS3, HS4, ⟨%f', %hf', HS5⟩, HS6⟩
  have hnew : ∀ j : S72x256x256.Idx, (j 0).val < t.val + 1 → f' j = ZZ m c j := slabs_step m c t f f' hf hf'
  · iapply (tail_skip c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc1 Set.univ (fun _ => bodyPost m c t))
    unfold bodyPost
    rw [Phi_succ, after0_0, after0_1, after0_2, after0_3, show (dats m c).owesAt () t.succ = (dats m c).owesAt () t.castSucc from rfl]
    unfold PhiP
    rw [ZM_succ]
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]
        · iexists f'; isplitr
          swap; · iexact HS5
          ipureintro; exact hnew
        iexact HS6
      iexact Hg
    isplitl [Ho]; · iexact Ho
    isplitl [H0]; · iexact H0
    isplitl [H1]; · iexact H1
    isplitl [H2]; · iexact H2
    isplitl [H3]; · iexact H3
    isplitl [H4]
    · iexists _; isplitr
      swap; · iexact H4
      ipureintro; exact fun h => absurd h ht1
    isplitl [H5]
    · iexists _; isplitr
      swap; · iexact H5
      ipureintro; exact fun h => absurd h ht1
    isplitl [H6]
    · iexists _; isplitr
      swap; · iexact H6
      ipureintro; exact hY6
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; exact hY9
    iexists _; isplitr
    swap; · iexact H10
    ipureintro; exact hY10

end Cert.KernelIdeal.Hand

end
-- ==== Proof.BodyLast.lean ====
module

public import proofs.«01_k».proof.Proof.BodyDefs
public import proofs.«01_k».proof.Proof.Gen.KernelIdeal.Frame
public import Idealize.ShloMosaic.Lib.Pipeline.DatRel
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
/-- The body at the last point. -/
theorem sound_last (c : Dev nD) (t : Fin cfg0.N) (ht : t.val ≠ 0) (ht1 : t.val = 71) : bodyPre m c t ⊢ wp frame (wpE (defs₀ (F := Ideal)) Variants.none c none) Set.univ (bodyAt0 t) (fun _ => bodyPost m c t) := by
  have hN : t.val < 72 := lt_of_lt_of_eq t.isLt N_cfg
  have hc0 : ¬cond0_0 (grid0.coords t) := fun h => by have := (hcond0_0 t).mp h; omega
  have hc1 : cond0_1 (grid0.coords t) := (hcond0_1 t).mpr (by omega)
  unfold bodyPre bodyAt0
  simp only [before0_0, before0_1, before0_2, before0_3]
  rw [Phi_castSucc, PhiS_pos m c _ ht]
  unfold PhiP
  iintro ⟨⟨⟨HS0, HS1, HS2, HS3, HS4, ⟨%f, %hf, HS5⟩, HS6⟩, Hg⟩, Ho, ⟨%d0, H0⟩, ⟨%d1, H1⟩, ⟨%d2, H2⟩, ⟨%d3, H3⟩, ⟨%Y4, %hY4, H4⟩, ⟨%Y5, %hY5, H5⟩, ⟨%Y6, %hY6, H6⟩, ⟨%Y7, %hY7, H7⟩, ⟨%Y8, %hY8, H8⟩, ⟨%Y9, %hY9, H9⟩, ⟨%Y10, %hY10, H10⟩⟩
  replace hY6 := found6 m c t ht Y6 hY6
  replace hY9 := found9 m c t ht Y9 hY9
  replace hY10 := found10 m c t ht Y10 hY10
  have hhead : ∀ K' : PUnit → sProp 𝕄, iprop(iprop(iprop(∃ r, prngReg c r) ∗ iprop(owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))))
      ∗ (iprop(iprop(∃ r, prngReg c r) ∗ owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))) -∗ K' ⟨⟩))
      ⊢ wp frame (wpE (defs₀ (F := Ideal)) Variants.none c none) Set.univ (headProg (F := Ideal) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K' := (fun K' => skip_pack c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 iprop(owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))) iprop(∃ r, prngReg c r) Set.univ K')
  iapply (mid_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (xbK m c) (xsK m c) (W3 m c t) (sK m c) (B4 m c t) f (ZM m c t.val) Set.univ (fun _ => bodyPost m c t)
    iprop(iprop(∃ r, prngReg c r) ∗ iprop(owns (c : Thread nD τ) scM0_0 fullShare (xbA (xbK m c)) ∗ owns (c : Thread nD τ) scM0_1 fullShare (xsA (xsK m c)) ∗ owns (c : Thread nD τ) scM0_2 fullShare (rowsV (sK m c)) ∗ owns (c : Thread nD τ) scM0_6 fullShare (zmA (ZM m c t.val))))
    iprop(∃ r, prngReg c r) hhead)
  isplitl [Hg HS0 HS1 HS2 HS6]
  · isplitl [Hg]; · iexact Hg
    isplitl [HS0]; · iexact HS0
    isplitl [HS1]; · iexact HS1
    isplitl [HS2]; · iexact HS2
    iexact HS6
  isplitl [H2]; · iexact H2
  isplitl [H3]; · iexact H3
  isplitl [H7]; · iexists _; iexact H7
  isplitl [H8]; · iexists _; iexact H8
  isplitl [HS3]; · iexact HS3
  isplitl [HS4]; · iexact HS4
  isplitl [HS5]; · iexact HS5
  iintro ⟨H2, H3, HS0, HS1, HS2, Hg, H7, H8, HS3, HS4, ⟨%f', %hf', HS5⟩, HS6⟩
  have hnew : ∀ j : S72x256x256.Idx, (j 0).val < t.val + 1 → f' j = ZZ m c j := slabs_step m c t f f' hf hf'
  have hZ : f' = ZZ m c := funext fun j => hnew j (by have h : (j 0).val < 72 := (j 0).isLt; omega)
  have hM : zmxV (ZM m c t.val) (xbK m c) (xsK m c) (W3 m c t) (sK m c) (B4 m c t) = ZM m c 72 := by rw [← ZM_succ, ht1]
  · iapply (tail_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc1 (zmxV (ZM m c t.val) (xbK m c) (xsK m c) (W3 m c t) (sK m c) (B4 m c t)) f' Set.univ (fun _ => bodyPost m c t))
    isplitl [HS5]; · iexact HS5
    isplitl [HS6]; · iexact HS6
    isplitl [H4]; · iexists _; iexact H4
    isplitl [H5]; · iexists _; iexact H5
    iintro ⟨HS5, HS6, H4, H5⟩
    unfold bodyPost
    rw [Phi_succ, after0_0, after0_1, after0_2, after0_3, show (dats m c).owesAt () t.succ = (dats m c).owesAt () t.castSucc from rfl]
    unfold PhiP
    rw [ZM_succ]
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]
        · iexists f'; isplitr
          swap; · iexact HS5
          ipureintro; exact hnew
        iexact HS6
      iexact Hg
    isplitl [Ho]; · iexact Ho
    isplitl [H0]; · iexact H0
    isplitl [H1]; · iexact H1
    isplitl [H2]; · iexact H2
    isplitl [H3]; · iexact H3
    isplitl [H4]
    · iexists _; isplitr
      swap; · iexact H4
      ipureintro; exact fun _ => by rw [hZ, hM]
    isplitl [H5]
    · iexists _; isplitr
      swap; · iexact H5
      ipureintro; exact fun _ => by rw [hM]
    isplitl [H6]
    · iexists _; isplitr
      swap; · iexact H6
      ipureintro; exact hY6
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; exact hY9
    iexists _; isplitr
    swap; · iexact H10
    ipureintro; exact hY10

end Cert.KernelIdeal.Hand

end
-- ==== Proof.Body.lean ====
module

public import proofs.«01_k».proof.Proof.BodyFirst
public import proofs.«01_k».proof.Proof.BodyMid
public import proofs.«01_k».proof.Proof.BodyLast
public import proofs.«01_k».proof.Proof.Gen.KernelIdeal.Frame
public import Idealize.ShloMosaic.Lib.Pipeline.DatRel
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) : bodyPre m c t ⊢ wp frame (wpE (defs₀ (F := Ideal)) Variants.none c none) Set.univ (bodyAt0 t) (fun _ => bodyPost m c t) := by
  by_cases ht : t.val = 0
  · exact sound_first m c t ht
  · by_cases ht1 : t.val = 71
    · exact sound_last m c t ht ht1
    · exact sound_mid m c t ht ht1

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : Pipeline.BodyObligationRel (dats m c) (defs₀ (F := Ideal)) Variants.none () Set.univ fgt0 (Rl m c) := fun t => by
  rw [bigSep_W0, bigSep_W0, defs₀_row]
  exact triple_restated (sound_body m c t) rfl .rfl fun _ => .rfl

end Cert.KernelIdeal.Hand

end
-- ==== Proof.Launch.lean ====
module

public import proofs.«01_k».proof.Proof.Body
public import proofs.«01_k».proof.Proof.Gen.KernelIdeal.Frame
public import Idealize.ShloMosaic.Lib.Pipeline.DatRel
public import Idealize.ShloMosaic.Lib.Pipeline.ArrRel
public import Idealize.ShloMosaic.Lib.Pipeline.FrameBody
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the launch hands the region is the invariant before the first point. -/
theorem hin (c : Dev nD) : Pipeline.ΦA spec0 c ⊢ (dats m c).Φ 0 := by
  rw [show (dats m c).Φ 0 = Pipeline.ΦA spec0 c from rfl]

/-- After the last point the invariant gives the scratch buffers back at anything. -/
theorem hout (c : Dev nD) : (dats m c).Φ (Fin.last cfg0.N) ⊢ Pipeline.ΦA spec0 c := by
  have hN : cfg0.N = 72 := N_0
  rw [show (dats m c).Φ (Fin.last cfg0.N) = PhiS m c cfg0.N from rfl, PhiS_pos m c _ (by omega), PhiA0_eq]
  unfold PhiP
  iintro ⟨⟨HS0, HS1, HS2, HS3, HS4, ⟨%f, %hf, HS5⟩, HS6⟩, Hg⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexists _; iexact HS5
    iexists _; iexact HS6
  iexact Hg

set_option backward.isDefEq.respectTransparency.types false in
set_option maxHeartbeats 800000 in
/-- The launch: the arrays end as the relational proof data say, the counters at zero. -/
theorem run_main_quiescent : θ_run defs (onTc (τ := τ) (main (F := Ideal))) (s₀ m ρ) (fun r => RDat.FramePost (cfgs 0) (rdats m) (V m) r ∧ r.2.sem = fun _ => 0) :=
  Pipeline.RDat.θ_run_frame_track (Q' := fun r => RDat.FramePost (cfgs 0) (rdats m) (V m) r ∧ r.2.sem = fun _ => 0) cfgs (0 : Fin 1) launch0 defs₀ Variants.none (rdats m) m ρ main
    (hbody := fun c => (body_obligation m c).toRRel) (hshare := fun c => (dats m c).share_full fun _ => rfl)
    (howed := fun _ _ => rfl) (V := V m) (hmain := hmain m Variants.none) (hA := A_eq m) (hin := hin m) (hout := hout m)
    (hQ' := fun _ h => h)

/-- The code array of `w`. -/
def WQ (c : Dev nD) : Vec Ideal S7168x18432 .i8 := fun j =>
  wqV (W3 m c ⟨(j 1).val / 256, by have h : (j 1).val < 18432 := (j 1).isLt; rw [N_cfg]; omega⟩) (sK m c)
    (ix2 (j 0) ⟨(j 1).val % 256, Nat.mod_lt _ (by decide)⟩)
/-- The scales of `w`. -/
def WS (c : Dev nD) : Vec Ideal S1x18432 .f32 := fun j =>
  wsV (W3 m c ⟨(j 1).val / 256, by have h : (j 1).val < 18432 := (j 1).isLt; rw [N_cfg]; omega⟩) (sK m c)
    (ix2 (j 0) ⟨(j 1).val % 256, Nat.mod_lt _ (by decide)⟩)

/-- Which block of the codes of `w` a point writes. -/
theorem oidx7 : ∀ t : Fin cfg0.N, win0_7.index t 0 = 0 ∧ win0_7.index t 1 = t.val := (by decide +kernel : ∀ t : Fin cfg0.N, win0_7.index t 0 = 0 ∧ win0_7.index t 1 = t.val)
/-- Which block of the scales of `w` a point writes. -/
theorem oidx8 : ∀ t : Fin cfg0.N, win0_8.index t 0 = 0 ∧ win0_8.index t 1 = t.val := (by decide +kernel : ∀ t : Fin cfg0.N, win0_8.index t 0 = 0 ∧ win0_8.index t 1 = t.val)

/-- The last point. -/
def t71 : Fin cfg0.N := ⟨71, by rw [N_cfg]; omega⟩

/-- Output 4 after the run. -/
theorem arr4 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (after w u)) :
    ((rdats m c).withAfter after).arrAt 4 cfg0.N = zqV (ZM m c 72) (ZZ m c) := by
  refine Dat.arrAt_eq_of_after_last _ 4 t71 (by decide +kernel) _ fun j => ?_
  have e : after 4 t71 = zqV (ZM m c 72) (ZZ m c) := (dats m c).toRRel_leaves (w := 4) rfl (hL 4 t71 ((flush0_4 t71).mpr (by decide))) rfl
  show after 4 t71 _ = _
  rw [e]
  rfl

/-- Output 5 after the run. -/
theorem arr5 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (after w u)) :
    ((rdats m c).withAfter after).arrAt 5 cfg0.N = zsV (ZM m c 72) := by
  refine Dat.arrAt_eq_of_after_last _ 5 t71 (by decide +kernel) _ fun j => ?_
  have e : after 5 t71 = zsV (ZM m c 72) := (dats m c).toRRel_leaves (w := 5) rfl (hL 5 t71 ((flush0_5 t71).mpr (by decide))) rfl
  show after 5 t71 _ = _
  rw [e]
  rfl

/-- Output 6 after the run. -/
theorem arr6 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (after w u)) :
    ((rdats m c).withAfter after).arrAt 6 cfg0.N = sV (X1 m c) (X2 m c) := by
  refine Dat.arrAt_eq_of_after_last _ 6 t71 (by decide +kernel) _ fun j => ?_
  have e : after 6 t71 = sV (X1 m c) (X2 m c) := (dats m c).toRRel_leaves (w := 6) rfl (hL 6 t71 ((flush0_6 t71).mpr (by decide)))
  show after 6 t71 _ = _
  rw [e]
  rfl

/-- Output 9 after the run. -/
theorem arr9 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (after w u)) :
    ((rdats m c).withAfter after).arrAt 9 cfg0.N = xqV (X1 m c) (X2 m c) := by
  refine Dat.arrAt_eq_of_after_last _ 9 t71 (by decide +kernel) _ fun j => ?_
  have e : after 9 t71 = xqV (X1 m c) (X2 m c) := (dats m c).toRRel_leaves (w := 9) rfl (hL 9 t71 ((flush0_9 t71).mpr (by decide)))
  show after 9 t71 _ = _
  rw [e]
  rfl

/-- Output 10 after the run. -/
theorem arr10 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (after w u)) :
    ((rdats m c).withAfter after).arrAt 10 cfg0.N = xsV (X1 m c) (X2 m c) := by
  refine Dat.arrAt_eq_of_after_last _ 10 t71 (by decide +kernel) _ fun j => ?_
  have e : after 10 t71 = xsV (X1 m c) (X2 m c) := (dats m c).toRRel_leaves (w := 10) rfl (hL 10 t71 ((flush0_10 t71).mpr (by decide)))
  show after 10 t71 _ = _
  rw [e]
  rfl

/-- Output 7 after the run. -/
theorem arr7 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (after w u)) :
    ((rdats m c).withAfter after).arrAt 7 cfg0.N = WQ m c := by
  refine Dat.arrAt_eq_of_covers _ 7 _ (by decide +kernel) fun t hf y => ?_
  have e : after 7 t = wqV (W3 m c t) (sK m c) := (dats m c).toRRel_leaves (w := 7) rfl (hL 7 t hf)
  have ht : t.val < 72 := lt_of_lt_of_eq t.isLt N_cfg
  have hy : (y 1).val < 256 := (y 1).isLt
  have e0 : (((cfg0.win 7).blk t).view.emb y 0).val = (y 0).val := by
    blk_simp [(oidx7 t).1]
  have e1 : (((cfg0.win 7).blk t).view.emb y 1).val = 256 * t.val + (y 1).val := by
    blk_simp [(oidx7 t).2]; omega
  show after 7 t _ = _
  rw [e]
  have ed : (⟨(((cfg0.win 7).blk t).view.emb y 1).val / 256, by rw [e1, N_cfg]; omega⟩ : Fin cfg0.N) = t := Fin.ext (by show (((cfg0.win 7).blk t).view.emb y 1).val / 256 = t.val; rw [e1]; omega)
  have em : (ix2 (((cfg0.win 7).blk t).view.emb y 0) ⟨(((cfg0.win 7).blk t).view.emb y 1).val % 256, Nat.mod_lt _ (by decide)⟩ : S7168x256.Idx) = ((cfg0.win 7).xinj (cfg0.grid.coords t) y) := by
    funext a
    match a with
    | ⟨0, _⟩ => exact Fin.ext e0
    | ⟨1, _⟩ => exact Fin.ext (by show (((cfg0.win 7).blk t).view.emb y 1).val % 256 = (y 1).val; rw [e1]; omega)
  show _ = wqV (W3 m c ⟨(((cfg0.win 7).blk t).view.emb y 1).val / 256, _⟩) (sK m c) (ix2 (((cfg0.win 7).blk t).view.emb y 0) ⟨(((cfg0.win 7).blk t).view.emb y 1).val % 256, _⟩)
  rw [ed, em]

/-- Output 8 after the run. -/
theorem arr8 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (after w u)) :
    ((rdats m c).withAfter after).arrAt 8 cfg0.N = WS m c := by
  refine Dat.arrAt_eq_of_covers _ 8 _ (by decide +kernel) fun t hf y => ?_
  have e : after 8 t = wsV (W3 m c t) (sK m c) := (dats m c).toRRel_leaves (w := 8) rfl (hL 8 t hf)
  have ht : t.val < 72 := lt_of_lt_of_eq t.isLt N_cfg
  have hy : (y 1).val < 256 := (y 1).isLt
  have e0 : (((cfg0.win 8).blk t).view.emb y 0).val = (y 0).val := by
    blk_simp [(oidx8 t).1]
  have e1 : (((cfg0.win 8).blk t).view.emb y 1).val = 256 * t.val + (y 1).val := by
    blk_simp [(oidx8 t).2]; omega
  show after 8 t _ = _
  rw [e]
  have ed : (⟨(((cfg0.win 8).blk t).view.emb y 1).val / 256, by rw [e1, N_cfg]; omega⟩ : Fin cfg0.N) = t := Fin.ext (by show (((cfg0.win 8).blk t).view.emb y 1).val / 256 = t.val; rw [e1]; omega)
  have em : (ix2 (((cfg0.win 8).blk t).view.emb y 0) ⟨(((cfg0.win 8).blk t).view.emb y 1).val % 256, Nat.mod_lt _ (by decide)⟩ : S1x256.Idx) = ((cfg0.win 8).xinj (cfg0.grid.coords t) y) := by
    funext a
    match a with
    | ⟨0, _⟩ => exact Fin.ext e0
    | ⟨1, _⟩ => exact Fin.ext (by show (((cfg0.win 8).blk t).view.emb y 1).val % 256 = (y 1).val; rw [e1]; omega)
  show _ = wsV (W3 m c ⟨(((cfg0.win 8).blk t).view.emb y 1).val / 256, _⟩) (sK m c) (ix2 (((cfg0.win 8).blk t).view.emb y 0) ⟨(((cfg0.win 8).blk t).view.emb y 1).val % 256, _⟩)
  rw [ed, em]

/-- The arguments after the run. -/
theorem args_kept (r : PUnit × MemSt nD τ sig (Elt Ideal)) (h : RDat.FramePost (cfgs 0) (rdats m) (V m) r ∧ r.2.sem = fun _ => 0) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  ⟨((h.1 c).2 main_arg0 (Pipeline.mem_restRefs_of main_arg0 (by decide) (by decide))).trans (V_main_arg0 m c),
    (h.1.arr_in c 2 rfl).trans ((A_eq m c 2).trans (V_main_arg1 m c)),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩

/-- The frame: the arguments end unchanged, the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun r h => ⟨args_kept m r h, h.2⟩) (run_main_quiescent m ρ)

/-- The results after the run. -/
theorem results : θ_run defs (onTc (τ := τ) (main (F := Ideal))) ⟨m, fun _ => 0, ρ⟩ (fun r => ∀ c : Dev nD,
      r.2.mem ((c.tc : Thread nD τ).loc main_v3_0) = zqV (ZM m c 72) (ZZ m c) ∧ r.2.mem ((c.tc : Thread nD τ).loc main_v3_1) = zsV (ZM m c 72) ∧ r.2.mem ((c.tc : Thread nD τ).loc main_v3_2) = sV (X1 m c) (X2 m c) ∧ r.2.mem ((c.tc : Thread nD τ).loc main_v3_3) = WQ m c ∧ r.2.mem ((c.tc : Thread nD τ).loc main_v3_4) = WS m c ∧ r.2.mem ((c.tc : Thread nD τ).loc main_v3_5) = xqV (X1 m c) (X2 m c) ∧ r.2.mem ((c.tc : Thread nD τ).loc main_v3_6) = xsV (X1 m c) (X2 m c)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h c => by
    obtain ⟨after, hL, hA⟩ := h.1.exists_exact c
    exact ⟨(hA 4).trans (arr4 m c after hL), (hA 5).trans (arr5 m c after hL), (hA 6).trans (arr6 m c after hL), (hA 7).trans (arr7 m c after hL), (hA 8).trans (arr8 m c after hL), (hA 9).trans (arr9 m c after hL), (hA 10).trans (arr10 m c after hL), args_kept m r h c⟩) (run_main_quiescent m ρ)

end Cert.KernelIdeal.Hand

end
-- ==== Proof.RefVal.lean ====
module

public import proofs.«01_k».proof.Proof.Spec
public import proofs.«01_k».proof.Proof.Gen.ReferenceIdeal.Skeleton
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen
open Cert.KernelIdeal.Hand (abE amx scl sfac code num c5)

variable (v0 : Vec Ideal S2x128x7168 .bf16) (v10 : Vec Ideal S7168 .f32) (v2 : Vec Ideal S7168x18432 .bf16)
  (v1 : FVec Ideal S2x128x7168 .f32) (v15 : FVec Ideal S7168 .f32) (v28 : FVec Ideal S18432 .f32) (v37 : IVec S7168x18432 8) (v73 : Vec Ideal S18432 .f32)
  (v76 : FVec Ideal S2x128x18432 .f32) (v78 : FVec Ideal S2x128 .f32)

/-- The reference's scale of a largest absolute value. -/
def rscl (a : EReal) : EReal := if a = 0 then 1 else Ideal.div a (Ideal.ofBits .f32 0x42FE0000#32)

/-- The reference's code of `v` at scale `u`. -/
def rcode (v u : EReal) : BitVec 8 :=
  FloatOps.fptosi (F := Ideal) (φ := .f32) 8 (min (Ideal.ofBits .f32 0x42FE0000#32) (max (Ideal.ofBits .f32 0xC2FE0000#32)
    (Ideal.liftRound Ideal.roundHalfEven (Ideal.div v u))))

/-- The reference's smoothing factor. -/
def rfac (a b : EReal) : EReal :=
  Ideal.div (Ideal.pow (max a c5) (Ideal.ofBits .f32 0x3F000000#32)) (Ideal.pow (max b c5) (Ideal.ofBits .f32 0x3F000000#32))

/-- The largest absolute value of a token of `x`. -/
theorem red_row (f : FVec Ideal S2x128x7168 .f32) (b : Fin 2) (r : Fin 128) :
    multiReduction .maximumf [2] S2x128 (absf f) 0xFF800000#32 reduces_S2x128x7168_S2x128 (.inl rfl) rfl (ix2 b r) = amx fun k : Fin 7168 => f (ix3 b r k) := by
  have h : ∀ g : FVec Ideal S2x128x7168 .f32, multiReduction .maximumf [2] S2x128 g 0xFF800000#32 reduces_S2x128x7168_S2x128 (.inl rfl) rfl (ix2 b r)
      = Finset.fold max (Ideal.ofBits .f32 0xFF800000#32) (fun x => g (ix3 b r x)) Finset.univ := fun g => by pointwise []
  rw [h]
  exact Cert.KernelIdeal.Hand.fold_max_abE fun k : Fin 7168 => f (ix3 b r k)

/-- The largest absolute value of a row of the result. -/
theorem red_rowz (f : FVec Ideal S2x128x18432 .f32) (b : Fin 2) (r : Fin 128) :
    multiReduction .maximumf [2] S2x128 (absf f) 0xFF800000#32 reduces_S2x128x18432_S2x128 (.inl rfl) rfl (ix2 b r) = amx fun k : Fin 18432 => f (ix3 b r k) := by
  have h : ∀ g : FVec Ideal S2x128x18432 .f32, multiReduction .maximumf [2] S2x128 g 0xFF800000#32 reduces_S2x128x18432_S2x128 (.inl rfl) rfl (ix2 b r)
      = Finset.fold max (Ideal.ofBits .f32 0xFF800000#32) (fun x => g (ix3 b r x)) Finset.univ := fun g => by pointwise []
  rw [h]
  exact Cert.KernelIdeal.Hand.fold_max_abE fun k : Fin 18432 => f (ix3 b r k)

/-- The largest absolute value of a column of `w`. -/
theorem red_col (f : FVec Ideal S7168x18432 .f32) (n : Fin 18432) :
    multiReduction .maximumf [0] S18432 (absf f) 0xFF800000#32 reduces_S7168x18432_S18432 (.inl rfl) rfl (ix1 n) = amx fun k : Fin 7168 => f (ix2 k n) := by
  have h : ∀ g : FVec Ideal S7168x18432 .f32, multiReduction .maximumf [0] S18432 g 0xFF800000#32 reduces_S7168x18432_S18432 (.inl rfl) rfl (ix1 n)
      = Finset.fold max (Ideal.ofBits .f32 0xFF800000#32) (fun x => g (ix2 x n)) Finset.univ := fun g => by pointwise []
  rw [h]
  exact Cert.KernelIdeal.Hand.fold_max_abE fun k : Fin 7168 => f (ix2 k n)

/-- The largest absolute value of a channel of `x`. -/
theorem red_x (f : FVec Ideal S2x128x7168 .f32) (k : Fin 7168) :
    multiReduction .maximumf [0, 1] S7168 (absf f) 0xFF800000#32 reduces_S2x128x7168_S7168 (.inl rfl) rfl (ix1 k)
      = amx fun r : Fin 256 => f (ix3 ⟨r.val / 128, by omega⟩ ⟨r.val % 128, Nat.mod_lt _ (by decide)⟩ k) := by
  have h : ∀ g : FVec Ideal S2x128x7168 .f32, multiReduction .maximumf [0, 1] S7168 g 0xFF800000#32 reduces_S2x128x7168_S7168 (.inl rfl) rfl (ix1 k)
      = Finset.fold max (Ideal.ofBits .f32 0xFF800000#32) g {i | reduces_S2x128x7168_S7168.drop i = ix1 k} := fun g => by pointwise []
  rw [h, Cert.KernelIdeal.Hand.ofBits_neg_inf]
  have e2 : ∀ (b : Fin 2) (r : Fin 128) (k' : Fin 7168), reduces_S2x128x7168_S7168.drop (ix3 b r k') = ix1 k' := by
    intro b r k'
    refine funext fun a => ?_
    obtain rfl : a = (0 : Fin 1) := Subsingleton.elim (α := Fin 1) a 0
    rfl
  apply le_antisymm
  · refine Finset.sup_le (f := absf f) fun i hi => ?_
    change S2x128x7168.Idx at i
    obtain ⟨b, r, k', rfl⟩ : ∃ (b : Fin 2) (r : Fin 128) (k' : Fin 7168), i = ix3 b r k' := ⟨i 0, i 1, i 2, by idx_vars i⟩
    rw [Finset.mem_filter, e2] at hi
    have hk : k' = k := congrFun hi.2 (0 : Fin 1)
    subst hk
    have hb : (⟨(128 * b.val + r.val) / 128, by omega⟩ : Fin 2) = b := Fin.ext (by show (128 * b.val + r.val) / 128 = b.val; omega)
    have hr : (⟨(128 * b.val + r.val) % 128, Nat.mod_lt _ (by decide)⟩ : Fin 128) = r := Fin.ext (by show (128 * b.val + r.val) % 128 = r.val; omega)
    have h3 := Finset.le_sup (s := Finset.univ) (f := fun r : Fin 256 => abE (f (ix3 ⟨r.val / 128, by omega⟩ ⟨r.val % 128, Nat.mod_lt _ (by decide)⟩ k'))) (Finset.mem_univ (⟨128 * b.val + r.val, by omega⟩ : Fin 256))
    simp only at h3
    rw [hb, hr] at h3
    exact h3
  · rw [Cert.KernelIdeal.Hand.amx_le]
    intro r
    refine Finset.le_sup (f := absf f) (b := ix3 _ _ k) ?_
    simp [e2]

/-- The operations that make a smoothing factor. -/
theorem aux4 (M : FVec Ideal S7168 .f32) (k : Fin 7168) : divf (F := Ideal) (powf (maximumf M (broadcast S7168 (Scalar.ofBits .f32 0x3727C5AC#32))) (broadcast S7168 (Scalar.ofBits .f32 0x3F000000#32))) (powf (maximumf v10 (broadcast S7168 (Scalar.ofBits .f32 0x3727C5AC#32))) (broadcast S7168 (Scalar.ofBits .f32 0x3F000000#32))) (ix1 k) = rfac (M (ix1 k)) (v10 (ix1 k)) := by
  pointwise [rfac, c5]

/-- The operations that make a column's scale. -/
theorem aux7 (M : FVec Ideal S18432 .f32) (n : Fin 18432) : select (cmpf .oeq M (broadcast S18432 (Scalar.ofBits .f32 0x00000000#32))) (broadcast S18432 (Scalar.ofBits .f32 0x3F800000#32)) (divf M (broadcast S18432 (Scalar.ofBits .f32 0x42FE0000#32))) (ix1 n) = rscl (M (ix1 n)) := by
  pointwise [rscl]

/-- The operations that make a row's scale. -/
theorem aux11 (M : FVec Ideal S2x128 .f32) (b : Fin 2) (r : Fin 128) : select (cmpf .oeq M (broadcast S2x128 (Scalar.ofBits .f32 0x00000000#32))) (broadcast S2x128 (Scalar.ofBits .f32 0x3F800000#32)) (divf M (broadcast S2x128 (Scalar.ofBits .f32 0x42FE0000#32))) (ix2 b r) = rscl (M (ix2 b r)) := by
  pointwise [rscl]

/-- The operations that make a code of `w`. -/
theorem aux8 (A : FVec Ideal S7168x18432 .f32) (B : FVec Ideal S18432 .f32) (k : Fin 7168) (n : Fin 18432) :
    fptosi (F := Ideal) 8 (minimumf (broadcast S7168x18432 (Scalar.ofBits .f32 0x42FE0000#32)) (maximumf (broadcast S7168x18432 (Scalar.ofBits .f32 0xC2FE0000#32)) (roundeven (divf A (broadcastTo S7168x18432 (shapeCast S1x18432 B shapeCasts_S18432_S1x18432) broadcasts_S1x18432_S7168x18432))))) (ix2 k n) = rcode (A (ix2 k n)) (B (ix1 n)) := by
  pointwise [rcode]

/-- The operations that make a code of `x`. -/
theorem aux12 (A : FVec Ideal S2x128x7168 .f32) (B : FVec Ideal S2x128 .f32) (b : Fin 2) (r : Fin 128) (k : Fin 7168) :
    fptosi (F := Ideal) 8 (minimumf (broadcast S2x128x7168 (Scalar.ofBits .f32 0x42FE0000#32)) (maximumf (broadcast S2x128x7168 (Scalar.ofBits .f32 0xC2FE0000#32)) (roundeven (divf A (broadcastTo S2x128x7168 (shapeCast S2x128x1 B shapeCasts_S2x128_S2x128x1) broadcasts_S2x128x1_S2x128x7168))))) (ix3 b r k) = rcode (A (ix3 b r k)) (B (ix2 b r)) := by
  pointwise [rcode]

/-- The matrix product, entry by entry. -/
theorem dot_apply (v64 : FVec Ideal S2x128x7168 .bf16) (v65 : FVec Ideal S7168x18432 .bf16) (b : Fin 2) (r : Fin 128) (n : Fin 18432) :
    matmul dot_S2x128x7168_S7168x18432_S2x128x18432_2_0_01_1_n_n none v64 v65 (constant S2x128x18432 .f32 0x00000000#32) (ix3 b r n) = ∑ x, v64 (ix3 b r x) * v65 (ix2 x n) := by
  pointwise []

/-- The scaling of the product and the adding of the bias. -/
theorem aux14 (M : FVec Ideal S2x128x18432 .f32) (B : FVec Ideal S2x128 .f32) (b : Fin 2) (r : Fin 128) (n : Fin 18432) :
    addf (F := Ideal) (mulf (mulf M (broadcastTo S2x128x18432 (shapeCast S2x128x1 B shapeCasts_S2x128_S2x128x1) broadcasts_S2x128x1_S2x128x18432)) (broadcastTo S2x128x18432 (shapeCast S1x1x18432 v28 shapeCasts_S18432_S1x1x18432) broadcasts_S1x1x18432_S2x128x18432))
      (broadcastTo S2x128x18432 (shapeCast S1x1x18432 v73 shapeCasts_S18432_S1x1x18432) broadcasts_S1x1x18432_S2x128x18432) (ix3 b r n)
      = M (ix3 b r n) * B (ix2 b r) * v28 (ix1 n) + v73 (ix1 n) := by
  pointwise []

/-- The widening of `x` changes no value. -/
theorem p3 : k0_pay3 (F := Ideal) v0 = v0 := rfl

/-- The reference's smoothing factor of a channel. -/
theorem p4 (k : Fin 7168) : k0_pay4 (F := Ideal) v0 v10 (ix1 k)
    = rfac (amx fun r : Fin 256 => v0 (ix3 ⟨r.val / 128, by omega⟩ ⟨r.val % 128, Nat.mod_lt _ (by decide)⟩ k)) (v10 (ix1 k)) := by
  rw [← red_x (fun i => v0 i) k]
  exact aux4 v10 (multiReduction (F := Ideal) .maximumf [0, 1] S7168 (absf (fun i => v0 i)) 0xFF800000#32 reduces_S2x128x7168_S7168 (.inl rfl) rfl) k

/-- The factors stored as one row. -/
theorem p5 (k : Fin 7168) : k0_pay5 (F := Ideal) v0 v10 (ix2 0 k) = k0_pay4 (F := Ideal) v0 v10 (ix1 k) := by
  pointwise [k0_pay5]

/-- The reference's products of `w` and the factors. -/
theorem p6 (k : Fin 7168) (n : Fin 18432) : k0_pay6 (F := Ideal) v0 v2 v10 (ix2 k n) = v2 (ix2 k n) * k0_pay4 (F := Ideal) v0 v10 (ix1 k) := by
  pointwise [k0_pay6]

/-- The reference's scale of a column of `w`. -/
theorem p7 (n : Fin 18432) : k0_pay7 (F := Ideal) v0 v2 v10 (ix1 n) = rscl (amx fun k : Fin 7168 => v2 (ix2 k n) * k0_pay4 (F := Ideal) v0 v10 (ix1 k)) := by
  have e := red_col (k0_pay6 (F := Ideal) v0 v2 v10) n
  simp only [p6] at e
  rw [← e]
  exact aux7 (multiReduction (F := Ideal) .maximumf [0] S18432 (absf (k0_pay6 (F := Ideal) v0 v2 v10)) 0xFF800000#32 reduces_S7168x18432_S18432 (.inl rfl) rfl) n

/-- The reference's code of `w`. -/
theorem p8 (k : Fin 7168) (n : Fin 18432) : k0_pay8 (F := Ideal) v0 v2 v10 (ix2 k n) = rcode (k0_pay6 (F := Ideal) v0 v2 v10 (ix2 k n)) (k0_pay7 (F := Ideal) v0 v2 v10 (ix1 n)) := by
  exact aux8 (k0_pay6 (F := Ideal) v0 v2 v10) (k0_pay7 (F := Ideal) v0 v2 v10) k n

/-- The scales of `w` stored as one row. -/
theorem p9 (n : Fin 18432)  : k0_pay9 (F := Ideal) v28 (ix2 0 n) = v28 (ix1 n) := by
  pointwise [k0_pay9]

/-- The reference's quotients of `x` by the factors. -/
theorem p10 (b : Fin 2) (r : Fin 128) (k : Fin 7168) : k0_pay10 (F := Ideal) v1 v15 (ix3 b r k) = Ideal.div (v1 (ix3 b r k)) (v15 (ix1 k)) := by
  pointwise [k0_pay10]

/-- The reference's scale of a token of `x`. -/
theorem p11 (b : Fin 2) (r : Fin 128) : k0_pay11 (F := Ideal) v1 v15 (ix2 b r) = rscl (amx fun k : Fin 7168 => Ideal.div (v1 (ix3 b r k)) (v15 (ix1 k))) := by
  have e := red_row (k0_pay10 (F := Ideal) v1 v15) b r
  simp only [p10] at e
  rw [← e]
  exact aux11 (multiReduction (F := Ideal) .maximumf [2] S2x128 (absf (k0_pay10 (F := Ideal) v1 v15)) 0xFF800000#32 reduces_S2x128x7168_S2x128 (.inl rfl) rfl) b r

/-- The reference's code of `x`. -/
theorem p12 (b : Fin 2) (r : Fin 128) (k : Fin 7168) : k0_pay12 (F := Ideal) v1 v15 (ix3 b r k) = rcode (k0_pay10 (F := Ideal) v1 v15 (ix3 b r k)) (k0_pay11 (F := Ideal) v1 v15 (ix2 b r)) := by
  exact aux12 (k0_pay10 (F := Ideal) v1 v15) (k0_pay11 (F := Ideal) v1 v15) b r k

/-- The codes of `x` stored flat. -/
theorem p13 (r : Fin 256) (k : Fin 7168) : k0_pay13 (F := Ideal) v1 v15 (ix2 r k) = k0_pay12 (F := Ideal) v1 v15 (ix3 ⟨r.val / 128, by omega⟩ ⟨r.val % 128, Nat.mod_lt _ (by decide)⟩ k) := by
  unfold k0_pay13
  generalize k0_pay12 (F := Ideal) v1 v15 = A
  pointwise []

/-- The reference's output of the layer. -/
theorem p14 (b : Fin 2) (r : Fin 128) (n : Fin 18432) : k0_pay14 (F := Ideal) v1 v15 v28 v37 v73 (ix3 b r n)
    = (∑ k : Fin 7168, num (k0_pay12 (F := Ideal) v1 v15 (ix3 b r k)) * num (v37 (ix2 k n))) * k0_pay11 (F := Ideal) v1 v15 (ix2 b r) * v28 (ix1 n) + v73 (ix1 n) := by
  have q := dot_apply (sitofp .bf16 (k0_pay12 (F := Ideal) v1 v15)) (sitofp .bf16 v37) b r n
  have q' : (∑ x : Fin 7168, (sitofp (F := Ideal) .bf16 (k0_pay12 (F := Ideal) v1 v15)) (ix3 b r x) * (sitofp (F := Ideal) .bf16 v37) (ix2 x n)) = ∑ k : Fin 7168, num (k0_pay12 (F := Ideal) v1 v15 (ix3 b r k)) * num (v37 (ix2 k n)) := Finset.sum_congr rfl fun _ _ => rfl
  rw [← q', ← q]
  exact aux14 v28 v73 (matmul dot_S2x128x7168_S7168x18432_S2x128x18432_2_0_01_1_n_n none (sitofp .bf16 (k0_pay12 (F := Ideal) v1 v15)) (sitofp .bf16 v37) (constant S2x128x18432 .f32 0x00000000#32)) (k0_pay11 (F := Ideal) v1 v15) b r n

/-- The largest absolute value of a row of the layer's output. -/
theorem p15 (b : Fin 2) (r : Fin 128) : k0_pay15 (F := Ideal) v1 v15 v28 v37 v73 (ix2 b r) = amx fun n : Fin 18432 => k0_pay14 (F := Ideal) v1 v15 v28 v37 v73 (ix3 b r n) := by
  exact red_rowz (k0_pay14 (F := Ideal) v1 v15 v28 v37 v73) b r

/-- The reference's scale of a row of the result. -/
theorem p1 (b : Fin 2) (r : Fin 128) : k0_pay1 (F := Ideal) v78 (ix2 b r) = rscl (v78 (ix2 b r)) := by
  pointwise [k0_pay1, rscl]

/-- The reference's code of the result. -/
theorem p2 (r : Fin 256) (n : Fin 18432) : k0_pay2 (F := Ideal) v76 v78 (ix2 r n)
    = rcode (v76 (ix3 ⟨r.val / 128, by omega⟩ ⟨r.val % 128, Nat.mod_lt _ (by decide)⟩ n)) (k0_pay1 (F := Ideal) v78 (ix2 ⟨r.val / 128, by omega⟩ ⟨r.val % 128, Nat.mod_lt _ (by decide)⟩)) := by
  pointwise [k0_pay2, rcode]

end Cert.ReferenceIdeal.Hand

end
-- ==== Proof.EMath.lean ====
module

public import proofs.«01_k».proof.Proof.RefVal
public import Idealize.ShloMosaic.PureOps.IdealRules

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen
open Cert.KernelIdeal.Hand (abE amx scl sfac code num c5)

open Cert.KernelIdeal.Hand (i127 abE_nonneg)

/-! ## Extended reals -/

/-- A real that is not zero is not zero as an extended real. -/
theorem coe_ne0 {r : ℝ} (h : r ≠ 0) : (r : EReal) ≠ 0 := by exact_mod_cast h

/-- The constant 127. -/
theorem v127 : Ideal.ofBits .f32 0x42FE0000#32 = ((127 : ℝ) : EReal) := by
  simp [Ideal.ofBits, Ideal.ieee, -EReal.coe_mul]; norm_num
/-- The constant -127. -/
theorem vm127 : Ideal.ofBits .f32 0xC2FE0000#32 = ((-127 : ℝ) : EReal) := by
  simp [Ideal.ofBits, Ideal.ieee, -EReal.coe_mul]; norm_num
/-- The constant one half. -/
theorem vhalf : Ideal.ofBits .f32 0x3F000000#32 = ((1 / 2 : ℝ) : EReal) := by
  simp [Ideal.ofBits, Ideal.ieee, -EReal.coe_mul]; norm_num
/-- The lower clamp is a positive real. -/
theorem vc5 : ∃ e : ℝ, 0 < e ∧ c5 = (e : EReal) := by
  refine ⟨10995116 / 1099511627776, by norm_num, ?_⟩
  simp [c5, Ideal.ofBits, Ideal.ieee, -EReal.coe_mul]
  norm_num
/-- The named constant is exactly 1/127. -/
theorem vi127 : i127 = ((1 / 127 : ℝ) : EReal) :=
  IdealRules.named_const.ideal_named_scalar _ _ _ _ rfl

/-- Rounding to the nearest integer, ties to even, is monotone. -/
theorem roundHalfEven_mono {r s : ℝ} (h : r ≤ s) : Ideal.roundHalfEven r ≤ Ideal.roundHalfEven s := by
  have hf : ⌊r⌋ ≤ ⌊s⌋ := Int.floor_le_floor h
  have lo : ∀ x : ℝ, ⌊x⌋ ≤ Ideal.roundHalfEven x := fun x => by
    unfold Ideal.roundHalfEven; dsimp only; split_ifs <;> omega
  have hi : ∀ x : ℝ, Ideal.roundHalfEven x ≤ ⌊x⌋ + 1 := fun x => by
    unfold Ideal.roundHalfEven; dsimp only; split_ifs <;> omega
  rcases lt_or_eq_of_le hf with hlt | heq
  · exact (hi r).trans (le_trans (by omega) (lo s))
  · unfold Ideal.roundHalfEven
    dsimp only
    rw [heq]
    split_ifs <;> first | omega | (exfalso; linarith) | simp

/-- It leaves an integer alone. -/
theorem roundHalfEven_int (n : ℤ) : Ideal.roundHalfEven (n : ℝ) = n := by
  unfold Ideal.roundHalfEven
  simp

/-- Rounding of extended reals is monotone. -/
theorem round_mono : Monotone (Ideal.liftRound Ideal.roundHalfEven) := by
  intro a b h
  induction a using EReal.rec with
  | bot => exact bot_le
  | top => rw [top_le_iff.1 h]
  | coe a =>
    induction b using EReal.rec with
    | bot => exact absurd (le_bot_iff.1 h) (EReal.coe_ne_bot a)
    | top => exact le_top
    | coe b =>
      rw [Ideal.liftRound_coe, Ideal.liftRound_coe]
      exact EReal.coe_le_coe_iff.2 (Int.cast_le.2 (roundHalfEven_mono (EReal.coe_le_coe_iff.1 h)))

/-- Rounding leaves 127 alone. -/
theorem round127 : Ideal.liftRound Ideal.roundHalfEven ((127 : ℝ) : EReal) = ((127 : ℝ) : EReal) := by
  have h := roundHalfEven_int 127
  rw [Ideal.liftRound_coe, show (127 : ℝ) = ((127 : ℤ) : ℝ) by norm_num, h]
/-- Rounding leaves -127 alone. -/
theorem roundm127 : Ideal.liftRound Ideal.roundHalfEven ((-127 : ℝ) : EReal) = ((-127 : ℝ) : EReal) := by
  have h := roundHalfEven_int (-127)
  rw [Ideal.liftRound_coe, show (-127 : ℝ) = ((-127 : ℤ) : ℝ) by norm_num, h]

/-- Division is multiplication by the reciprocal, away from zero. -/
theorem div_eq (v u : EReal) (h : u ≠ 0) : Ideal.div v u = v * Ideal.div 1 u := by
  unfold Ideal.div
  rw [if_neg h, if_neg h, one_mul]

/-- Clamping before rounding and after it give the same code. -/
theorem rcode_eq (v u : EReal) (h : u ≠ 0) : rcode v u = code v (Ideal.div 1 u) := by
  unfold rcode code
  rw [div_eq v u h, v127, vm127, round_mono.map_min, round_mono.map_max, round127, roundm127]

/-- Dividing by 127 is multiplying by the constant. -/
theorem rscl_eq (a : EReal) : rscl a = scl a := by
  unfold rscl scl
  rw [v127, vi127]
  congr 1
  unfold Ideal.div
  rw [if_neg (coe_ne0 (by norm_num)), ← EReal.coe_inv]
  norm_num

/-- A scale is not zero. -/
theorem scl_ne (a : EReal) : scl a ≠ 0 := by
  unfold scl
  split
  · exact one_ne_zero
  · next h =>
    rw [vi127]
    refine mul_ne_zero h ?_
    rw [← EReal.coe_zero, EReal.coe_eq_coe_iff.ne]
    norm_num

/-- At a number at least the lower bound: the power one half is the square root, and neither is zero. -/
theorem pow_half (a : EReal) (e : ℝ) (he : 0 < e) (h : (e : EReal) ≤ a) :
    Ideal.pow a ((1 / 2 : ℝ) : EReal) = Ideal.sqrt a ∧ Ideal.sqrt a ≠ 0 ∧ Ideal.rsqrt a = (Ideal.sqrt a)⁻¹ ∧ 0 < Ideal.sqrt a := by
  induction a using EReal.rec with
  | bot => exact absurd (le_bot_iff.1 h) (EReal.coe_ne_bot e)
  | top =>
    refine ⟨?_, EReal.top_ne_zero, ?_, EReal.zero_lt_top⟩
    · show (if (0 : EReal) < ((1 / 2 : ℝ) : EReal) then (⊤ : EReal) else _) = ⊤
      rw [if_pos (by rw [← EReal.coe_zero, EReal.coe_lt_coe_iff]; norm_num)]
    · show (0 : EReal) = (⊤ : EReal)⁻¹
      rw [EReal.inv_top]
  | coe r =>
    have hr : 0 < r := lt_of_lt_of_le he (EReal.coe_le_coe_iff.1 h)
    have hs : Ideal.sqrt (r : EReal) = ((Real.sqrt r : ℝ) : EReal) := by
      show (if r < 0 then (⊥ : EReal) else _) = _
      rw [if_neg (not_lt.2 hr.le)]
    have hq : 0 < Real.sqrt r := Real.sqrt_pos.2 hr
    refine ⟨?_, ?_, ?_, ?_⟩
    · rw [hs, Real.sqrt_eq_rpow]; rfl
    · rw [hs, ← EReal.coe_zero, EReal.coe_eq_coe_iff.ne]; exact hq.ne'
    · rw [hs, ← EReal.coe_inv]
      show (if r < 0 then (⊥ : EReal) else if r = 0 then ⊤ else _) = _
      rw [if_neg (not_lt.2 hr.le), if_neg hr.ne']
    · rw [hs, ← EReal.coe_zero, EReal.coe_lt_coe_iff]; exact hq

/-- The two forms of a smoothing factor are equal. -/
theorem rfac_eq (a b : EReal) : rfac a b = sfac a b := by
  obtain ⟨e, he, hc⟩ := vc5
  unfold rfac sfac
  rw [hc, vhalf]
  obtain ⟨h1, h2, h3, h4⟩ := pow_half (max a e) e he (le_max_right _ _)
  obtain ⟨g1, g2, g3, g4⟩ := pow_half (max b e) e he (le_max_right _ _)
  rw [h1, g1, g3]
  unfold Ideal.div
  rw [if_neg g2]

/-- A smoothing factor is not zero if the maximum of `w` is finite. -/
theorem sfac_ne (a b : EReal) (hb : b ≠ ⊤) : sfac a b ≠ 0 := by
  obtain ⟨e, he, hc⟩ := vc5
  unfold sfac
  rw [hc]
  obtain ⟨h1, h2, h3, h4⟩ := pow_half (max a e) e he (le_max_right _ _)
  obtain ⟨g1, g2, g3, g4⟩ := pow_half (max b e) e he (le_max_right _ _)
  refine mul_ne_zero h2 ?_
  have hm : max b (e : EReal) ≠ ⊤ := by
    rcases max_choice b (e : EReal) with h | h <;> rw [h]
    · exact hb
    · exact EReal.coe_ne_top e
  have hm' : (e : EReal) ≤ max b (e : EReal) := le_max_right _ _
  generalize max b (e : EReal) = q at *
  induction q using EReal.rec with
  | bot => exact absurd (le_bot_iff.1 hm') (EReal.coe_ne_bot e)
  | top => exact absurd rfl hm
  | coe r =>
    have hr : 0 < r := lt_of_lt_of_le he (EReal.coe_le_coe_iff.1 hm')
    show (if r < 0 then (⊥ : EReal) else if r = 0 then ⊤ else _) ≠ 0
    rw [if_neg (not_lt.2 hr.le), if_neg hr.ne', ← EReal.coe_zero, EReal.coe_eq_coe_iff.ne]
    exact inv_ne_zero (Real.sqrt_pos.2 hr).ne'

end Cert.ReferenceIdeal.Hand

end
-- ==== Proof.RefOut.lean ====
module

public import proofs.«01_k».proof.Proof.RefVal
public import proofs.«01_k».proof.Proof.Gen.ReferenceIdeal.Frame
public import Idealize.ShloMosaic.Lib.Pipeline.ValueKit
public import Idealize.ShloMosaic.Lib.Claim
public import Idealize.ShloMosaic.Lib.Pipeline.FrameBody

@[expose] public section

set_option maxRecDepth 16384

noncomputable section

namespace Cert.ReferenceIdeal.Hand

open Idealize.ShloMosaic Idealize.ShloMosaic.TcCoe Idealize.ShloMosaic.Tactic
open Idealize.ShloMosaic.Pipeline (Dat Cfg Window)
open Idealize.SL Idealize.SL.RA Idealize.SL.BI Idealize.SL.Sem
open Cert.ReferenceIdeal Cert.ReferenceIdeal.Gen
open Cert.KernelIdeal.Hand (abE amx scl sfac code num c5)

section
variable (x0 : Vec Ideal S2x128x7168 .bf16) (x1 : Vec Ideal S7168x18432 .bf16) (x2 : Vec Ideal S7168 .f32) (x3 : Vec Ideal S18432 .f32)

/-- A load of a whole block reads the block. -/
theorem ld0 : View.ld (Val := Elt Ideal) x0 r0_0 = x0 := View.ld_unit_lit' _ x0 (by decide)
/-- A load of a whole block reads the block. -/
theorem ld1 : View.ld (Val := Elt Ideal) x1 r0_1 = x1 := View.ld_unit_lit' _ x1 (by decide)
/-- A load of a whole block reads the block. -/
theorem ld2 : View.ld (Val := Elt Ideal) x2 r0_2 = x2 := View.ld_unit_lit' _ x2 (by decide)
/-- A load of a whole block reads the block. -/
theorem ld3 : View.ld (Val := Elt Ideal) x3 r0_7 = x3 := View.ld_unit_lit' _ x3 (by decide)
/-- The widening of the first argument changes no value. -/
theorem p3' : k0_pay3 (F := Ideal) x0 = x0 := rfl

/-- Output 4 of the reference. -/
def R4 : Vec Ideal S256x18432 .i8 := k0_pay2 (k0_pay14 x0 (k0_pay4 x0 x2) (k0_pay7 x0 x1 x2) (k0_pay8 x0 x1 x2) x3) (k0_pay15 x0 (k0_pay4 x0 x2) (k0_pay7 x0 x1 x2) (k0_pay8 x0 x1 x2) x3)
/-- What the body stores in output 4. -/
theorem out4 : out0_4 (F := Ideal) x0 x1 x2 x3 = R4 x0 x1 x2 x3 := by
  unfold_out out0_4
  simp only [ld0, ld1, ld2, ld3, p3']
  exact View.canon_cons_unit_lit' _ _ _ (by decide)

/-- Output 5 of the reference. -/
def R5 : Vec Ideal S2x128 .f32 := k0_pay1 (k0_pay15 x0 (k0_pay4 x0 x2) (k0_pay7 x0 x1 x2) (k0_pay8 x0 x1 x2) x3)
/-- What the body stores in output 5. -/
theorem out5 : out0_5 (F := Ideal) x0 x1 x2 x3 = R5 x0 x1 x2 x3 := by
  unfold_out out0_5
  simp only [ld0, ld1, ld2, ld3, p3']
  exact View.canon_cons_unit_lit' _ _ _ (by decide)

/-- Output 6 of the reference. -/
def R6 : Vec Ideal S1x7168 .f32 := k0_pay5 x0 x2
/-- What the body stores in output 6. -/
theorem out6 : out0_6 (F := Ideal) x0 x1 x2 x3 = R6 x0 x2 := by
  unfold_out out0_6
  simp only [ld0, ld1, ld2, ld3, p3']
  exact View.canon_cons_unit_lit' _ _ _ (by decide)

/-- Output 7 of the reference. -/
def R7 : Vec Ideal S7168x18432 .i8 := k0_pay8 x0 x1 x2
/-- What the body stores in output 7. -/
theorem out7 : out0_7 (F := Ideal) x0 x1 x2 x3 = R7 x0 x1 x2 := by
  unfold_out out0_7
  simp only [ld0, ld1, ld2, ld3, p3']
  exact View.canon_cons_unit_lit' _ _ _ (by decide)

/-- Output 8 of the reference. -/
def R8 : Vec Ideal S1x18432 .f32 := k0_pay9 (k0_pay7 x0 x1 x2)
/-- What the body stores in output 8. -/
theorem out8 : out0_8 (F := Ideal) x0 x1 x2 x3 = R8 x0 x1 x2 := by
  unfold_out out0_8
  simp only [ld0, ld1, ld2, ld3, p3']
  exact View.canon_cons_unit_lit' _ _ _ (by decide)

/-- Output 9 of the reference. -/
def R9 : Vec Ideal S256x7168 .i8 := k0_pay13 x0 (k0_pay4 x0 x2)
/-- What the body stores in output 9. -/
theorem out9 : out0_9 (F := Ideal) x0 x1 x2 x3 = R9 x0 x2 := by
  unfold_out out0_9
  simp only [ld0, ld1, ld2, ld3, p3']
  exact View.canon_cons_unit_lit' _ _ _ (by decide)

/-- Output 10 of the reference. -/
def R10 : Vec Ideal S2x128 .f32 := k0_pay11 x0 (k0_pay4 x0 x2)
/-- What the body stores in output 10. -/
theorem out10 : out0_10 (F := Ideal) x0 x1 x2 x3 = R10 x0 x2 := by
  unfold_out out0_10
  simp only [ld0, ld1, ld2, ld3, p3']
  exact View.canon_cons_unit_lit' _ _ _ (by decide)

end

variable (m : (ℓ : Loc nD τ sig) → Buf (Elt Ideal) ℓ) (ρ : Dev nD → PrngReg)

/-- The block of array 0 starts at the origin. -/
theorem bidx0 : ∀ t : Fin cfg0.N, win0_0.index t 0 = 0 ∧ win0_0.index t 1 = 0 ∧ win0_0.index t 2 = 0 := (by decide +kernel : ∀ t : Fin cfg0.N, win0_0.index t 0 = 0 ∧ win0_0.index t 1 = 0 ∧ win0_0.index t 2 = 0)
/-- The block of input 0 is its whole array. -/
theorem blk0 (c : Dev nD) (t : Fin cfg0.N) : iblk m c 0 t = m ((c.tc : Thread nD τ).loc main_arg0) := by
  funext j
  show V m c main_arg0 (((cfg0.win 0).blk t).view.emb j) = _
  rw [V_main_arg0]
  congr 1
  funext a
  match a with
  | ⟨0, _⟩ => apply Fin.ext; blk_simp [(bidx0 t).1]
  | ⟨1, _⟩ => apply Fin.ext; blk_simp [(bidx0 t).2.1]
  | ⟨2, _⟩ => apply Fin.ext; blk_simp [(bidx0 t).2.2]

/-- The block of array 1 starts at the origin. -/
theorem bidx1 : ∀ t : Fin cfg0.N, win0_1.index t 0 = 0 ∧ win0_1.index t 1 = 0 := (by decide +kernel : ∀ t : Fin cfg0.N, win0_1.index t 0 = 0 ∧ win0_1.index t 1 = 0)
/-- The block of input 1 is its whole array. -/
theorem blk1 (c : Dev nD) (t : Fin cfg0.N) : iblk m c 1 t = m ((c.tc : Thread nD τ).loc main_arg1) := by
  funext j
  show V m c main_arg1 (((cfg0.win 1).blk t).view.emb j) = _
  rw [V_main_arg1]
  congr 1
  funext a
  match a with
  | ⟨0, _⟩ => apply Fin.ext; blk_simp [(bidx1 t).1]
  | ⟨1, _⟩ => apply Fin.ext; blk_simp [(bidx1 t).2]

/-- The block of array 2 starts at the origin. -/
theorem bidx2 : ∀ t : Fin cfg0.N, win0_2.index t 0 = 0 := (by decide +kernel : ∀ t : Fin cfg0.N, win0_2.index t 0 = 0)
/-- The block of input 2 is its whole array. -/
theorem blk2 (c : Dev nD) (t : Fin cfg0.N) : iblk m c 2 t = m ((c.tc : Thread nD τ).loc main_arg2) := by
  funext j
  show V m c main_arg2 (((cfg0.win 2).blk t).view.emb j) = _
  rw [V_main_arg2]
  congr 1
  funext a
  match a with
  | ⟨0, _⟩ => apply Fin.ext; blk_simp [(bidx2 t)]

/-- The block of array 3 starts at the origin. -/
theorem bidx3 : ∀ t : Fin cfg0.N, win0_3.index t 0 = 0 := (by decide +kernel : ∀ t : Fin cfg0.N, win0_3.index t 0 = 0)
/-- The block of input 3 is its whole array. -/
theorem blk3 (c : Dev nD) (t : Fin cfg0.N) : iblk m c 3 t = m ((c.tc : Thread nD τ).loc main_arg3) := by
  funext j
  show V m c main_arg3 (((cfg0.win 3).blk t).view.emb j) = _
  rw [V_main_arg3]
  congr 1
  funext a
  match a with
  | ⟨0, _⟩ => apply Fin.ext; blk_simp [(bidx3 t)]

/-- The block of array 4 starts at the origin. -/
theorem bidx4 : ∀ t : Fin cfg0.N, win0_4.index t 0 = 0 ∧ win0_4.index t 1 = 0 := (by decide +kernel : ∀ t : Fin cfg0.N, win0_4.index t 0 = 0 ∧ win0_4.index t 1 = 0)
/-- Output 4 after the run. -/
theorem arr4 (c : Dev nD) : (dats (F := Ideal) m 0 c).arrAt 4 cfg0.N = R4 (m ((c.tc : Thread nD τ).loc main_arg0)) (m ((c.tc : Thread nD τ).loc main_arg1)) (m ((c.tc : Thread nD τ).loc main_arg2)) (m ((c.tc : Thread nD τ).loc main_arg3)) := by
  refine Dat.arrAt_eq_of_covers _ 4 _ (by decide +kernel) fun t hf y => ?_
  have e : (dats (F := Ideal) m 0 c).after 4 t = R4 (m ((c.tc : Thread nD τ).loc main_arg0)) (m ((c.tc : Thread nD τ).loc main_arg1)) (m ((c.tc : Thread nD τ).loc main_arg2)) (m ((c.tc : Thread nD τ).loc main_arg3)) := by
    rw [after0_4, out4, blk0, blk1, blk2, blk3]
  show (dats (F := Ideal) m 0 c).after 4 t _ = _
  rw [e]
  congr 1
  funext a
  match a with
  | ⟨0, _⟩ => apply Fin.ext; blk_simp [(bidx4 t).1]
  | ⟨1, _⟩ => apply Fin.ext; blk_simp [(bidx4 t).2]

/-- The block of array 5 starts at the origin. -/
theorem bidx5 : ∀ t : Fin cfg0.N, win0_5.index t 0 = 0 ∧ win0_5.index t 1 = 0 := (by decide +kernel : ∀ t : Fin cfg0.N, win0_5.index t 0 = 0 ∧ win0_5.index t 1 = 0)
/-- Output 5 after the run. -/
theorem arr5 (c : Dev nD) : (dats (F := Ideal) m 0 c).arrAt 5 cfg0.N = R5 (m ((c.tc : Thread nD τ).loc main_arg0)) (m ((c.tc : Thread nD τ).loc main_arg1)) (m ((c.tc : Thread nD τ).loc main_arg2)) (m ((c.tc : Thread nD τ).loc main_arg3)) := by
  refine Dat.arrAt_eq_of_covers _ 5 _ (by decide +kernel) fun t hf y => ?_
  have e : (dats (F := Ideal) m 0 c).after 5 t = R5 (m ((c.tc : Thread nD τ).loc main_arg0)) (m ((c.tc : Thread nD τ).loc main_arg1)) (m ((c.tc : Thread nD τ).loc main_arg2)) (m ((c.tc : Thread nD τ).loc main_arg3)) := by
    rw [after0_5, out5, blk0, blk1, blk2, blk3]
  show (dats (F := Ideal) m 0 c).after 5 t _ = _
  rw [e]
  congr 1
  funext a
  match a with
  | ⟨0, _⟩ => apply Fin.ext; blk_simp [(bidx5 t).1]
  | ⟨1, _⟩ => apply Fin.ext; blk_simp [(bidx5 t).2]

/-- The block of array 6 starts at the origin. -/
theorem bidx6 : ∀ t : Fin cfg0.N, win0_6.index t 0 = 0 ∧ win0_6.index t 1 = 0 := (by decide +kernel : ∀ t : Fin cfg0.N, win0_6.index t 0 = 0 ∧ win0_6.index t 1 = 0)
/-- Output 6 after the run. -/
theorem arr6 (c : Dev nD) : (dats (F := Ideal) m 0 c).arrAt 6 cfg0.N = R6 (m ((c.tc : Thread nD τ).loc main_arg0)) (m ((c.tc : Thread nD τ).loc main_arg2)) := by
  refine Dat.arrAt_eq_of_covers _ 6 _ (by decide +kernel) fun t hf y => ?_
  have e : (dats (F := Ideal) m 0 c).after 6 t = R6 (m ((c.tc : Thread nD τ).loc main_arg0)) (m ((c.tc : Thread nD τ).loc main_arg2)) := by
    rw [after0_6, out6, blk0, blk2]
  show (dats (F := Ideal) m 0 c).after 6 t _ = _
  rw [e]
  congr 1
  funext a
  match a with
  | ⟨0, _⟩ => apply Fin.ext; blk_simp [(bidx6 t).1]
  | ⟨1, _⟩ => apply Fin.ext; blk_simp [(bidx6 t).2]

/-- The block of array 7 starts at the origin. -/
theorem bidx7 : ∀ t : Fin cfg0.N, win0_7.index t 0 = 0 ∧ win0_7.index t 1 = 0 := (by decide +kernel : ∀ t : Fin cfg0.N, win0_7.index t 0 = 0 ∧ win0_7.index t 1 = 0)
/-- Output 7 after the run. -/
theorem arr7 (c : Dev nD) : (dats (F := Ideal) m 0 c).arrAt 7 cfg0.N = R7 (m ((c.tc : Thread nD τ).loc main_arg0)) (m ((c.tc : Thread nD τ).loc main_arg1)) (m ((c.tc : Thread nD τ).loc main_arg2)) := by
  refine Dat.arrAt_eq_of_covers _ 7 _ (by decide +kernel) fun t hf y => ?_
  have e : (dats (F := Ideal) m 0 c).after 7 t = R7 (m ((c.tc : Thread nD τ).loc main_arg0)) (m ((c.tc : Thread nD τ).loc main_arg1)) (m ((c.tc : Thread nD τ).loc main_arg2)) := by
    rw [after0_7, out7, blk0, blk1, blk2]
  show (dats (F := Ideal) m 0 c).after 7 t _ = _
  rw [e]
  congr 1
  funext a
  match a with
  | ⟨0, _⟩ => apply Fin.ext; blk_simp [(bidx7 t).1]
  | ⟨1, _⟩ => apply Fin.ext; blk_simp [(bidx7 t).2]

/-- The block of array 8 starts at the origin. -/
theorem bidx8 : ∀ t : Fin cfg0.N, win0_8.index t 0 = 0 ∧ win0_8.index t 1 = 0 := (by decide +kernel : ∀ t : Fin cfg0.N, win0_8.index t 0 = 0 ∧ win0_8.index t 1 = 0)
/-- Output 8 after the run. -/
theorem arr8 (c : Dev nD) : (dats (F := Ideal) m 0 c).arrAt 8 cfg0.N = R8 (m ((c.tc : Thread nD τ).loc main_arg0)) (m ((c.tc : Thread nD τ).loc main_arg1)) (m ((c.tc : Thread nD τ).loc main_arg2)) := by
  refine Dat.arrAt_eq_of_covers _ 8 _ (by decide +kernel) fun t hf y => ?_
  have e : (dats (F := Ideal) m 0 c).after 8 t = R8 (m ((c.tc : Thread nD τ).loc main_arg0)) (m ((c.tc : Thread nD τ).loc main_arg1)) (m ((c.tc : Thread nD τ).loc main_arg2)) := by
    rw [after0_8, out8, blk0, blk1, blk2]
  show (dats (F := Ideal) m 0 c).after 8 t _ = _
  rw [e]
  congr 1
  funext a
  match a with
  | ⟨0, _⟩ => apply Fin.ext; blk_simp [(bidx8 t).1]
  | ⟨1, _⟩ => apply Fin.ext; blk_simp [(bidx8 t).2]

/-- The block of array 9 starts at the origin. -/
theorem bidx9 : ∀ t : Fin cfg0.N, win0_9.index t 0 = 0 ∧ win0_9.index t 1 = 0 := (by decide +kernel : ∀ t : Fin cfg0.N, win0_9.index t 0 = 0 ∧ win0_9.index t 1 = 0)
/-- Output 9 after the run. -/
theorem arr9 (c : Dev nD) : (dats (F := Ideal) m 0 c).arrAt 9 cfg0.N = R9 (m ((c.tc : Thread nD τ).loc main_arg0)) (m ((c.tc : Thread nD τ).loc main_arg2)) := by
  refine Dat.arrAt_eq_of_covers _ 9 _ (by decide +kernel) fun t hf y => ?_
  have e : (dats (F := Ideal) m 0 c).after 9 t = R9 (m ((c.tc : Thread nD τ).loc main_arg0)) (m ((c.tc : Thread nD τ).loc main_arg2)) := by
    rw [after0_9, out9, blk0, blk2]
  show (dats (F := Ideal) m 0 c).after 9 t _ = _
  rw [e]
  congr 1
  funext a
  match a with
  | ⟨0, _⟩ => apply Fin.ext; blk_simp [(bidx9 t).1]
  | ⟨1, _⟩ => apply Fin.ext; blk_simp [(bidx9 t).2]

/-- The block of array 10 starts at the origin. -/
theorem bidx10 : ∀ t : Fin cfg0.N, win0_10.index t 0 = 0 ∧ win0_10.index t 1 = 0 := (by decide +kernel : ∀ t : Fin cfg0.N, win0_10.index t 0 = 0 ∧ win0_10.index t 1 = 0)
/-- Output 10 after the run. -/
theorem arr10 (c : Dev nD) : (dats (F := Ideal) m 0 c).arrAt 10 cfg0.N = R10 (m ((c.tc : Thread nD τ).loc main_arg0)) (m ((c.tc : Thread nD τ).loc main_arg2)) := by
  refine Dat.arrAt_eq_of_covers _ 10 _ (by decide +kernel) fun t hf y => ?_
  have e : (dats (F := Ideal) m 0 c).after 10 t = R10 (m ((c.tc : Thread nD τ).loc main_arg0)) (m ((c.tc : Thread nD τ).loc main_arg2)) := by
    rw [after0_10, out10, blk0, blk2]
  show (dats (F := Ideal) m 0 c).after 10 t _ = _
  rw [e]
  congr 1
  funext a
  match a with
  | ⟨0, _⟩ => apply Fin.ext; blk_simp [(bidx10 t).1]
  | ⟨1, _⟩ => apply Fin.ext; blk_simp [(bidx10 t).2]

/-- The reference's results after its run. -/
theorem results : θ_run defs (onTc (τ := τ) (main (F := Ideal))) ⟨m, fun _ => 0, ρ⟩ (fun r => ∀ c : Dev nD,
      r.2.mem ((c.tc : Thread nD τ).loc main_v0_0) = R4 (m ((c.tc : Thread nD τ).loc main_arg0)) (m ((c.tc : Thread nD τ).loc main_arg1)) (m ((c.tc : Thread nD τ).loc main_arg2)) (m ((c.tc : Thread nD τ).loc main_arg3)) ∧ r.2.mem ((c.tc : Thread nD τ).loc main_v0_1) = R5 (m ((c.tc : Thread nD τ).loc main_arg0)) (m ((c.tc : Thread nD τ).loc main_arg1)) (m ((c.tc : Thread nD τ).loc main_arg2)) (m ((c.tc : Thread nD τ).loc main_arg3)) ∧ r.2.mem ((c.tc : Thread nD τ).loc main_v0_2) = R6 (m ((c.tc : Thread nD τ).loc main_arg0)) (m ((c.tc : Thread nD τ).loc main_arg2)) ∧ r.2.mem ((c.tc : Thread nD τ).loc main_v0_3) = R7 (m ((c.tc : Thread nD τ).loc main_arg0)) (m ((c.tc : Thread nD τ).loc main_arg1)) (m ((c.tc : Thread nD τ).loc main_arg2)) ∧ r.2.mem ((c.tc : Thread nD τ).loc main_v0_4) = R8 (m ((c.tc : Thread nD τ).loc main_arg0)) (m ((c.tc : Thread nD τ).loc main_arg1)) (m ((c.tc : Thread nD τ).loc main_arg2)) ∧ r.2.mem ((c.tc : Thread nD τ).loc main_v0_5) = R9 (m ((c.tc : Thread nD τ).loc main_arg0)) (m ((c.tc : Thread nD τ).loc main_arg2)) ∧ r.2.mem ((c.tc : Thread nD τ).loc main_v0_6) = R10 (m ((c.tc : Thread nD τ).loc main_arg0)) (m ((c.tc : Thread nD τ).loc main_arg2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h c => ⟨((h c).1 4).trans (arr4 m c), ((h c).1 5).trans (arr5 m c), ((h c).1 6).trans (arr6 m c), ((h c).1 7).trans (arr7 m c), ((h c).1 8).trans (arr8 m c), ((h c).1 9).trans (arr9 m c), ((h c).1 10).trans (arr10 m c),
    ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c)))⟩) (run_main m ρ)

end Cert.ReferenceIdeal.Hand

end
-- ==== Proof.Algebra.lean ====
module

public import proofs.«01_k».proof.Proof.Inputs
public import proofs.«01_k».proof.Proof.Launch
public import proofs.«01_k».proof.Proof.EMath
public import proofs.«01_k».proof.Proof.RefOut
public import proofs.«01_k».proof.Proof.Gen.Pre_finite_absmax
public import Idealize.ShloMosaic.Lib.Claim

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen
open Cert.KernelIdeal.Hand (X1 X2 W3 B4 sK xbK xsK ZM ZZ ZM_succ N_cfg xdv xscl xcode wml wscl wcode zval zrs zqV zsV sV xqV xsV WQ WS amx_le abE_nonneg abE amx scl sfac code num c5)

section
variable (m : (ℓ : Loc Cert.KernelIdeal.nD Cert.KernelIdeal.τ Cert.KernelIdeal.sig) → Buf (Elt Ideal) ℓ) (c : Dev Cert.KernelIdeal.nD)
  (a0 : Vec Ideal S2x128x7168 .bf16) (a1 : Vec Ideal S7168x18432 .bf16) (a2 : Vec Ideal S7168 .f32) (a3 : Vec Ideal S18432 .f32)

/-- The kernel's blocks are the parts of the arguments `a0` to `a3` they should be, and no column maximum of `w` is infinite. -/
structure Fits : Prop where
  h0 : ∀ (r : Fin 256) (k : Fin 7168), X1 m c (ix2 r k) = a0 (ix3 ⟨r.val / 128, by omega⟩ ⟨r.val % 128, Nat.mod_lt _ (by decide)⟩ k)
  h1 : ∀ k : Fin 7168, X2 m c (ix2 0 k) = a2 (ix1 k)
  hW : ∀ (t : Fin Cert.KernelIdeal.cfg0.N) (k : Fin 7168) (n : Fin 256), W3 m c t (ix2 k n) = a1 (ix2 k ⟨256 * t.val + n.val, by have := lt_of_lt_of_eq t.isLt N_cfg; omega⟩)
  hB : ∀ (t : Fin Cert.KernelIdeal.cfg0.N) (n : Fin 256), B4 m c t (ix2 0 n) = a3 (ix1 ⟨256 * t.val + n.val, by have := lt_of_lt_of_eq t.isLt N_cfg; omega⟩)
  hb : ∀ k : Fin 7168, a2 (ix1 k) ≠ ⊤

variable (H : Fits m c a0 a1 a2 a3)
include H

/-- The smoothing factors agree. -/
theorem s_eq (k : Fin 7168) : sK m c k = k0_pay4 (F := Ideal) a0 a2 (ix1 k) := by
  rw [p4, rfac_eq]
  show sfac (amx fun r : Fin 256 => X1 m c (ix2 r k)) (X2 m c (ix2 0 k)) = _
  simp only [H.h0, H.h1]

/-- No smoothing factor is zero. -/
theorem s_ne (k : Fin 7168) : k0_pay4 (F := Ideal) a0 a2 (ix1 k) ≠ 0 := by
  rw [p4, rfac_eq]
  exact sfac_ne _ _ (H.hb k)

/-- The quotients of `x` by the factors agree: the kernel multiplies by a reciprocal. -/
theorem xdv_eq (r : Fin 256) (k : Fin 7168) : xdv (X1 m c) (sK m c) r k = k0_pay10 (F := Ideal) a0 (k0_pay4 (F := Ideal) a0 a2) (ix3 ⟨r.val / 128, by omega⟩ ⟨r.val % 128, Nat.mod_lt _ (by decide)⟩ k) := by
  rw [p10, div_eq _ _ (s_ne m c a0 a1 a2 a3 H k)]
  unfold xdv
  rw [s_eq m c a0 a1 a2 a3 H, H.h0]

/-- The scales of the rows of `x` agree. -/
theorem xscl_eq (r : Fin 256) : xscl (X1 m c) (sK m c) r = k0_pay11 (F := Ideal) a0 (k0_pay4 (F := Ideal) a0 a2) (ix2 ⟨r.val / 128, by omega⟩ ⟨r.val % 128, Nat.mod_lt _ (by decide)⟩) := by
  rw [p11, rscl_eq]
  unfold xscl
  simp only [xdv_eq m c a0 a1 a2 a3 H, p10]

/-- The codes of `x` agree. -/
theorem xcode_eq (r : Fin 256) (k : Fin 7168) : xcode (X1 m c) (sK m c) r k = k0_pay12 (F := Ideal) a0 (k0_pay4 (F := Ideal) a0 a2) (ix3 ⟨r.val / 128, by omega⟩ ⟨r.val % 128, Nat.mod_lt _ (by decide)⟩ k) := by
  have h : k0_pay11 (F := Ideal) a0 (k0_pay4 (F := Ideal) a0 a2) (ix2 ⟨r.val / 128, by omega⟩ ⟨r.val % 128, Nat.mod_lt _ (by decide)⟩) ≠ 0 := by
    rw [← xscl_eq m c a0 a1 a2 a3 H r]
    exact scl_ne _
  rw [p12, rcode_eq _ _ h, ← xscl_eq m c a0 a1 a2 a3 H r, ← xdv_eq m c a0 a1 a2 a3 H r k]
  rfl

/-- The scales of the columns of `w` agree. -/
theorem wscl_eq (t : Fin Cert.KernelIdeal.cfg0.N) (n : Fin 256) : wscl (W3 m c t) (sK m c) n = k0_pay7 (F := Ideal) a0 a1 a2 (ix1 ⟨256 * t.val + n.val, by have := lt_of_lt_of_eq t.isLt N_cfg; omega⟩) := by
  rw [p7, rscl_eq]
  unfold wscl wml
  simp only [s_eq m c a0 a1 a2 a3 H, H.hW]

/-- The codes of `w` agree. -/
theorem wcode_eq (t : Fin Cert.KernelIdeal.cfg0.N) (k : Fin 7168) (n : Fin 256) : wcode (W3 m c t) (sK m c) k n = k0_pay8 (F := Ideal) a0 a1 a2 (ix2 k ⟨256 * t.val + n.val, by have := lt_of_lt_of_eq t.isLt N_cfg; omega⟩) := by
  have h : k0_pay7 (F := Ideal) a0 a1 a2 (ix1 ⟨256 * t.val + n.val, by have := lt_of_lt_of_eq t.isLt N_cfg; omega⟩) ≠ 0 := by
    rw [← wscl_eq m c a0 a1 a2 a3 H t n]
    exact scl_ne _
  rw [p8, rcode_eq _ _ h, ← wscl_eq m c a0 a1 a2 a3 H t n, p6, ← s_eq m c a0 a1 a2 a3 H, ← H.hW]
  rfl

/-- The reference's layer output at row `r`, column `n`. -/
def zR (a0 : Vec Ideal S2x128x7168 .bf16) (a1 : Vec Ideal S7168x18432 .bf16) (a2 : Vec Ideal S7168 .f32) (a3 : Vec Ideal S18432 .f32) (r : Fin 256) (n : Fin 18432) : EReal :=
  k0_pay14 (F := Ideal) a0 (k0_pay4 (F := Ideal) a0 a2) (k0_pay7 (F := Ideal) a0 a1 a2) (k0_pay8 (F := Ideal) a0 a1 a2) a3 (ix3 ⟨r.val / 128, by omega⟩ ⟨r.val % 128, Nat.mod_lt _ (by decide)⟩ n)

/-- The layer's outputs agree. -/
theorem z_eq (t : Fin Cert.KernelIdeal.cfg0.N) (r n : Fin 256) :
    zval (xbK m c) (xsK m c) (W3 m c t) (sK m c) (B4 m c t) r n = zR a0 a1 a2 a3 r ⟨256 * t.val + n.val, by have := lt_of_lt_of_eq t.isLt N_cfg; omega⟩ := by
  unfold zR
  rw [p14]
  unfold zval xbK xsK
  rw [xscl_eq m c a0 a1 a2 a3 H, wscl_eq m c a0 a1 a2 a3 H, H.hB]
  simp only [xcode_eq m c a0 a1 a2 a3 H, wcode_eq m c a0 a1 a2 a3 H]

/-- What the running maxima are at most: the absolute values met so far. -/
theorem zm_le (r : Fin 256) (l : Fin 128) (b : EReal) : ∀ n ≤ 72,
    (ZM m c n r l ≤ b ↔ 0 ≤ b ∧ ∀ j : Fin 18432, j.val < 256 * n → j.val % 128 = l.val → abE (zR a0 a1 a2 a3 r j) ≤ b)
  | 0, _ => by
    show (0 : EReal) ≤ b ↔ _
    exact ⟨fun h => ⟨h, fun j hj => absurd hj (by omega)⟩, fun h => h.1⟩
  | n + 1, hn => by
    have ih := zm_le r l b n (by omega)
    have hN : n < Cert.KernelIdeal.cfg0.N := by rw [N_cfg]; omega
    have e := ZM_succ m c ⟨n, hN⟩
    rw [show ZM m c (n + 1) = _ from e]
    show max (max (ZM m c n r l) (abE (zval (xbK m c) (xsK m c) (W3 m c ⟨n, hN⟩) (sK m c) (B4 m c ⟨n, hN⟩) r ⟨l.val, _⟩)))
      (abE (zval (xbK m c) (xsK m c) (W3 m c ⟨n, hN⟩) (sK m c) (B4 m c ⟨n, hN⟩) r ⟨128 + l.val, _⟩)) ≤ b ↔ _
    rw [z_eq m c a0 a1 a2 a3 H, z_eq m c a0 a1 a2 a3 H, max_le_iff, max_le_iff, ih]
    constructor
    · rintro ⟨⟨⟨h0, h⟩, h1⟩, h2⟩
      refine ⟨h0, fun j hj hl => ?_⟩
      by_cases hj' : j.val < 256 * n
      · exact h j hj' hl
      · by_cases hq : j.val < 256 * n + 128
        · have : j = ⟨256 * n + l.val, by omega⟩ := Fin.ext (by show j.val = 256 * n + l.val; omega)
          rw [this]; exact h1
        · have : j = ⟨256 * n + (128 + l.val), by omega⟩ := Fin.ext (by show j.val = 256 * n + (128 + l.val); omega)
          rw [this]; exact h2
    · rintro ⟨h0, h⟩
      have hl := l.isLt
      refine ⟨⟨⟨h0, fun j hj hl => h j (by omega) hl⟩, h _ ?_ ?_⟩, h _ ?_ ?_⟩
      · show 256 * n + l.val < 256 * (n + 1); omega
      · show (256 * n + l.val) % 128 = l.val; omega
      · show 256 * n + (128 + l.val) < 256 * (n + 1); omega
      · show (256 * n + (128 + l.val)) % 128 = l.val; omega

/-- The largest of a row's running maxima is the largest absolute value of the row. -/
theorem zm_sup (r : Fin 256) : (Finset.univ.sup fun l : Fin 128 => ZM m c 72 r l) = amx fun n : Fin 18432 => zR a0 a1 a2 a3 r n := by
  refine eq_of_forall_ge_iff fun b => ?_
  rw [amx_le, Finset.sup_le_iff]
  constructor
  · intro h j
    exact ((zm_le m c a0 a1 a2 a3 H r ⟨j.val % 128, Nat.mod_lt _ (by decide)⟩ b 72 le_rfl).1 (h _ (Finset.mem_univ _))).2 j (by omega) rfl
  · intro h l _
    exact (zm_le m c a0 a1 a2 a3 H r l b 72 le_rfl).2 ⟨(abE_nonneg _).trans (h 0), fun j _ _ => h j⟩

/-- The scales of the result's rows agree. -/
theorem zrs_eq (r : Fin 256) : zrs (ZM m c 72) r = R5 a0 a1 a2 a3 (ix2 ⟨r.val / 128, by omega⟩ ⟨r.val % 128, Nat.mod_lt _ (by decide)⟩) := by
  unfold R5 zrs
  rw [p1, p15, rscl_eq, zm_sup m c a0 a1 a2 a3 H]
  rfl

/-- Result 1 agrees. -/
theorem res0 : zqV (ZM m c 72) (ZZ m c) = R4 a0 a1 a2 a3 := by
  funext j
  obtain ⟨r, n, rfl⟩ : ∃ (r : Fin 256) (n : Fin 18432), j = ix2 r n := ⟨j 0, j 1, by idx_vars j⟩
  have hz := zrs_eq m c a0 a1 a2 a3 H r
  have h : R5 a0 a1 a2 a3 (ix2 ⟨r.val / 128, by omega⟩ ⟨r.val % 128, Nat.mod_lt _ (by decide)⟩) ≠ 0 := by
    rw [← hz]
    exact scl_ne _
  unfold R5 at h hz
  unfold R4
  rw [p2, rcode_eq _ _ h, ← hz]
  have hn := n.isLt
  have e := z_eq m c a0 a1 a2 a3 H ⟨n.val / 256, by rw [N_cfg]; omega⟩ r ⟨n.val % 256, Nat.mod_lt _ (by decide)⟩
  have en : (⟨256 * (n.val / 256) + n.val % 256, by omega⟩ : Fin 18432) = n := Fin.ext (by show 256 * (n.val / 256) + n.val % 256 = n.val; omega)
  show code (zval (xbK m c) (xsK m c) (W3 m c ⟨n.val / 256, _⟩) (sK m c) (B4 m c ⟨n.val / 256, _⟩) r ⟨n.val % 256, _⟩) (Ideal.div 1 (zrs (ZM m c 72) r)) = _
  rw [e]
  show code (zR a0 a1 a2 a3 r ⟨256 * (n.val / 256) + n.val % 256, _⟩) _ = code (zR a0 a1 a2 a3 r n) _
  rw [en]

/-- Result 2 agrees. -/
theorem res1 : zsV (ZM m c 72) = R5 a0 a1 a2 a3 := by
  funext j
  obtain ⟨b, r, rfl⟩ : ∃ (b : Fin 2) (r : Fin 128), j = ix2 b r := ⟨j 0, j 1, by idx_vars j⟩
  have e := zrs_eq m c a0 a1 a2 a3 H ⟨128 * b.val + r.val, by omega⟩
  show zrs (ZM m c 72) ⟨128 * b.val + r.val, _⟩ = _
  have e1 : (⟨(128 * b.val + r.val) / 128, by omega⟩ : Fin 2) = b := Fin.ext (by show (128 * b.val + r.val) / 128 = b.val; omega)
  have e2 : (⟨(128 * b.val + r.val) % 128, Nat.mod_lt _ (by decide)⟩ : Fin 128) = r := Fin.ext (by show (128 * b.val + r.val) % 128 = r.val; omega)
  rw [e]
  show R5 a0 a1 a2 a3 (ix2 ⟨(128 * b.val + r.val) / 128, _⟩ ⟨(128 * b.val + r.val) % 128, _⟩) = _
  rw [e1, e2]

/-- Result 3 agrees. -/
theorem res2 : sV (X1 m c) (X2 m c) = R6 a0 a2 := by
  funext j
  obtain ⟨b, k, rfl⟩ : ∃ (b : Fin 1) (k : Fin 7168), j = ix2 b k := ⟨j 0, j 1, by idx_vars j⟩
  obtain rfl : b = 0 := Subsingleton.elim _ _
  unfold R6
  rw [p5]
  exact s_eq m c a0 a1 a2 a3 H k

/-- Result 4 agrees. -/
theorem res3 : WQ m c = R7 a0 a1 a2 := by
  funext j
  obtain ⟨k, n, rfl⟩ : ∃ (k : Fin 7168) (n : Fin 18432), j = ix2 k n := ⟨j 0, j 1, by idx_vars j⟩
  have hn := n.isLt
  have e := wcode_eq m c a0 a1 a2 a3 H ⟨n.val / 256, by rw [N_cfg]; omega⟩ k ⟨n.val % 256, Nat.mod_lt _ (by decide)⟩
  have en : (⟨256 * (n.val / 256) + n.val % 256, by omega⟩ : Fin 18432) = n := Fin.ext (by show 256 * (n.val / 256) + n.val % 256 = n.val; omega)
  show wcode (W3 m c ⟨n.val / 256, _⟩) (sK m c) k ⟨n.val % 256, _⟩ = _
  rw [e]
  show k0_pay8 (F := Ideal) a0 a1 a2 (ix2 k ⟨256 * (n.val / 256) + n.val % 256, _⟩) = k0_pay8 (F := Ideal) a0 a1 a2 (ix2 k n)
  rw [en]

/-- Result 5 agrees. -/
theorem res4 : WS m c = R8 a0 a1 a2 := by
  funext j
  obtain ⟨b, n, rfl⟩ : ∃ (b : Fin 1) (n : Fin 18432), j = ix2 b n := ⟨j 0, j 1, by idx_vars j⟩
  obtain rfl : b = 0 := Subsingleton.elim _ _
  have hn := n.isLt
  have e := wscl_eq m c a0 a1 a2 a3 H ⟨n.val / 256, by rw [N_cfg]; omega⟩ ⟨n.val % 256, Nat.mod_lt _ (by decide)⟩
  have en : (⟨256 * (n.val / 256) + n.val % 256, by omega⟩ : Fin 18432) = n := Fin.ext (by show 256 * (n.val / 256) + n.val % 256 = n.val; omega)
  unfold R8
  rw [p9]
  show wscl (W3 m c ⟨n.val / 256, _⟩) (sK m c) ⟨n.val % 256, _⟩ = _
  rw [e]
  show k0_pay7 (F := Ideal) a0 a1 a2 (ix1 ⟨256 * (n.val / 256) + n.val % 256, _⟩) = _
  rw [en]

/-- Result 6 agrees. -/
theorem res5 : xqV (X1 m c) (X2 m c) = R9 a0 a2 := by
  funext j
  obtain ⟨r, k, rfl⟩ : ∃ (r : Fin 256) (k : Fin 7168), j = ix2 r k := ⟨j 0, j 1, by idx_vars j⟩
  unfold R9
  rw [p13]
  exact xcode_eq m c a0 a1 a2 a3 H r k

/-- Result 7 agrees. -/
theorem res6 : xsV (X1 m c) (X2 m c) = R10 a0 a2 := by
  funext j
  obtain ⟨b, r, rfl⟩ : ∃ (b : Fin 2) (r : Fin 128), j = ix2 b r := ⟨j 0, j 1, by idx_vars j⟩
  have e := xscl_eq m c a0 a1 a2 a3 H ⟨128 * b.val + r.val, by omega⟩
  unfold R10
  show xscl (X1 m c) (sK m c) ⟨128 * b.val + r.val, _⟩ = _
  have e1 : (⟨(128 * b.val + r.val) / 128, by omega⟩ : Fin 2) = b := Fin.ext (by show (128 * b.val + r.val) / 128 = b.val; omega)
  have e2 : (⟨(128 * b.val + r.val) % 128, Nat.mod_lt _ (by decide)⟩ : Fin 128) = r := Fin.ext (by show (128 * b.val + r.val) % 128 = r.val; omega)
  rw [e]
  show k0_pay11 (F := Ideal) a0 (k0_pay4 (F := Ideal) a0 a2) (ix2 ⟨(128 * b.val + r.val) / 128, _⟩ ⟨(128 * b.val + r.val) % 128, _⟩) = _
  rw [e1, e2]

end

/-- What the precondition says of an array of column maxima: none is infinite. -/
theorem pre_ne [Cert.Pre_finite_absmax.Facts] (a0 : Vec Ideal S2x128x7168 .bf16) (a1 : Vec Ideal S7168x18432 .bf16) (a2 : Vec Ideal S7168 .f32) (a3 : Vec Ideal S18432 .f32)
    (h : Cert.Pre_finite_absmax.fn (F := Ideal) a0 a1 a2 a3 = fun _ => 1#1) (k : Fin 7168) : a2 (ix1 k) ≠ ⊤ := by
  intro e
  have q : Ideal.cmp .olt (a2 (ix1 k)) (Ideal.ofBits .f32 0x7F800000#32) = 1#1 := congrFun h (ix1 k)
  rw [e] at q
  simp [Ideal.cmp] at q

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_absmax
public import proofs.«01_k».proof.Proof.KFrame
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel's blocks are parts of its arguments, and under the precondition no column maximum is infinite. -/
theorem fits [Cert.Pre_finite_absmax.Facts] (m : (ℓ : Loc Cert.KernelIdeal.nD Cert.KernelIdeal.τ Cert.KernelIdeal.sig) → Buf (Elt Ideal) ℓ)
    (h : Cert.Pre_KernelIdeal_finite_absmax m) (c : Dev Cert.KernelIdeal.nD) :
    Cert.ReferenceIdeal.Hand.Fits m c (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) where
  h0 := Cert.KernelIdeal.Hand.X1_eq m c
  h1 := Cert.KernelIdeal.Hand.X2_eq m c
  hW := Cert.KernelIdeal.Hand.W3_eq m c
  hB := Cert.KernelIdeal.Hand.B4_eq m c
  hb := Cert.ReferenceIdeal.Hand.pre_ne _ _ _ _ (h c)

/-- The kernel's seven results are the reference's. -/
theorem algebraic [Cert.Pre_finite_absmax.Facts] : Cert.algebraic_KernelIdeal_ReferenceIdeal_pre_finite_absmax := by
  intro m g m' g' hpre hargs
  refine ⟨_, _, _, _, _, _, _, Cert.KernelIdeal.Hand.results m g, ?_⟩
  refine (θ_run _ _ _).mono (fun r h c => ?_) (Cert.ReferenceIdeal.Hand.results m' g')
  have F := fits m hpre c
  obtain ⟨h0, h1, h2, h3, h4, h5, h6, ha⟩ := h c
  obtain ⟨e0, e1, e2, e3⟩ := hargs c
  rw [e0, e1, e2, e3] at h0 h1
  rw [e0, e2] at h2 h5 h6
  rw [e0, e1, e2] at h3 h4
  exact ⟨h0.trans (Cert.ReferenceIdeal.Hand.res0 m c _ _ _ _ F).symm, h1.trans (Cert.ReferenceIdeal.Hand.res1 m c _ _ _ _ F).symm,
    h2.trans (Cert.ReferenceIdeal.Hand.res2 m c _ _ _ _ F).symm, h3.trans (Cert.ReferenceIdeal.Hand.res3 m c _ _ _ _ F).symm,
    h4.trans (Cert.ReferenceIdeal.Hand.res4 m c _ _ _ _ F).symm, h5.trans (Cert.ReferenceIdeal.Hand.res5 m c _ _ _ _ F).symm,
    h6.trans (Cert.ReferenceIdeal.Hand.res6 m c _ _ _ _ F).symm, ha⟩

/-- The certificate: the frames of the three programs, the named constant, and the equality of all results. -/
theorem claim : Cert.Claim := ⟨Cert.Kernel.Gen.facts, Cert.KernelIdeal.Gen.facts, Cert.ReferenceIdeal.Gen.facts, Cert.Pre_finite_absmax.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.named_const.statement Cert.KernelIdeal.κ "inv_127" .f32 0x3C010204#32 ((1 / 127 : ℝ) : EReal) rfl,
  algebraic⟩

end Cert.Proof

end
